-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 4, 4] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 4, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S256x4096 : Shape := ⟨2, ![256, 4096]⟩
abbrev S256x1024 : Shape := ⟨2, ![256, 1024]⟩
abbrev S1 : Shape := ⟨1, ![1]⟩
abbrev S_ : Shape := ⟨0, ![]⟩
abbrev S8 : Shape := ⟨1, ![8]⟩
abbrev S32x1024 : Shape := ⟨2, ![32, 1024]⟩
abbrev S16x1024 : Shape := ⟨2, ![16, 1024]⟩

abbrev nBuf : Space → Nat
  | .hbm => 3
  | .vmem => 10
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S1024x1024, .f32⟩
  | .local _ .vmem, ⟨1, _⟩ => ⟨S256x4096, .f32⟩
  | .local _ .vmem, ⟨2, _⟩ => ⟨S1024x4096, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 1 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let c2_i32_18 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v36 : BitVec 32 := Scalar.muli c2_i32_18 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v37 : BitVec 32 := Scalar.addi v36 v28
  let c256_i32 : BitVec 32 := 256#32
  let v38 : BitVec 32 := Scalar.muli v37 c256_i32
  let c0_i32_29 : BitVec 32 := 0#32
  let v52 : BitVec 32 := Scalar.addi v38 c0_i32_29
  let c0_i32_33 : BitVec 32 := 0#32
  ![v52.toNat, 0]
def k0_dev1 (d0 : Dev nD) : Nat :=
  let c0_i32_36 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_35 : BitVec 32 := 16#32
  let v58 : BitVec 32 := Scalar.muli v29 c16_i32_35
  let v59 : BitVec 32 := Scalar.addi c0_i32_36 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v60 : BitVec 32 := Scalar.muli v5 c4_i32_37
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v62 : BitVec 32 := Scalar.muli v8 c1_i32_38
  let v63 : BitVec 32 := Scalar.addi v61 v62
  v63.toNat
def k0_dev2 (d0 : Dev nD) : Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_40 : BitVec 32 := 16#32
  let v64 : BitVec 32 := Scalar.muli v2 c16_i32_40
  let v65 : BitVec 32 := Scalar.addi c0_i32_41 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_42 : BitVec 32 := 4#32
  let v66 : BitVec 32 := Scalar.muli v32 c4_i32_42
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v68 : BitVec 32 := Scalar.muli v8 c1_i32_43
  let v69 : BitVec 32 := Scalar.addi v67 v68
  v69.toNat
def k0_dev3 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v70 : BitVec 32 := Scalar.muli v2 c16_i32_45
  let v71 : BitVec 32 := Scalar.addi c0_i32_46 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v72 : BitVec 32 := Scalar.muli v5 c4_i32_47
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_48 : BitVec 32 := 1#32
  let v74 : BitVec 32 := Scalar.muli v35 c1_i32_48
  let v75 : BitVec 32 := Scalar.addi v73 v74
  v75.toNat
def k0_dev4 (d0 : Dev nD) : Nat :=
  let c0_i32_66 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_65 : BitVec 32 := 16#32
  let v92 : BitVec 32 := Scalar.muli v29 c16_i32_65
  let v93 : BitVec 32 := Scalar.addi c0_i32_66 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_67 : BitVec 32 := 4#32
  let v94 : BitVec 32 := Scalar.muli v5 c4_i32_67
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v96 : BitVec 32 := Scalar.muli v8 c1_i32_68
  let v97 : BitVec 32 := Scalar.addi v95 v96
  v97.toNat
def k0_dev5 (d0 : Dev nD) : Nat :=
  let c0_i32_76 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_75 : BitVec 32 := 16#32
  let v104 : BitVec 32 := Scalar.muli v29 c16_i32_75
  let v105 : BitVec 32 := Scalar.addi c0_i32_76 v104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_77 : BitVec 32 := 4#32
  let v106 : BitVec 32 := Scalar.muli v5 c4_i32_77
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v108 : BitVec 32 := Scalar.muli v8 c1_i32_78
  let v109 : BitVec 32 := Scalar.addi v107 v108
  v109.toNat
def k0_dev6 (d0 : Dev nD) : Nat :=
  let c0_i32_85 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_84 : BitVec 32 := 16#32
  let v116 : BitVec 32 := Scalar.muli v29 c16_i32_84
  let v117 : BitVec 32 := Scalar.addi c0_i32_85 v116
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_86 : BitVec 32 := 4#32
  let v118 : BitVec 32 := Scalar.muli v5 c4_i32_86
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v120 : BitVec 32 := Scalar.muli v8 c1_i32_87
  let v121 : BitVec 32 := Scalar.addi v119 v120
  v121.toNat
def k0_dev7 (d0 : Dev nD) : Nat :=
  let c0_i32_94 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_93 : BitVec 32 := 16#32
  let v128 : BitVec 32 := Scalar.muli v29 c16_i32_93
  let v129 : BitVec 32 := Scalar.addi c0_i32_94 v128
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_95 : BitVec 32 := 4#32
  let v130 : BitVec 32 := Scalar.muli v5 c4_i32_95
  let v131 : BitVec 32 := Scalar.addi v129 v130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v132 : BitVec 32 := Scalar.muli v8 c1_i32_96
  let v133 : BitVec 32 := Scalar.addi v131 v132
  v133.toNat
def k0_dev8 (d0 : Dev nD) : Nat :=
  let c0_i32_103 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_102 : BitVec 32 := 16#32
  let v140 : BitVec 32 := Scalar.muli v29 c16_i32_102
  let v141 : BitVec 32 := Scalar.addi c0_i32_103 v140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_104 : BitVec 32 := 4#32
  let v142 : BitVec 32 := Scalar.muli v5 c4_i32_104
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_105 : BitVec 32 := 1#32
  let v144 : BitVec 32 := Scalar.muli v8 c1_i32_105
  let v145 : BitVec 32 := Scalar.addi v143 v144
  v145.toNat
def k0_dev9 (d0 : Dev nD) : Nat :=
  let c0_i32_111 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_110 : BitVec 32 := 16#32
  let v152 : BitVec 32 := Scalar.muli v29 c16_i32_110
  let v153 : BitVec 32 := Scalar.addi c0_i32_111 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_112 : BitVec 32 := 4#32
  let v154 : BitVec 32 := Scalar.muli v5 c4_i32_112
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v156 : BitVec 32 := Scalar.muli v8 c1_i32_113
  let v157 : BitVec 32 := Scalar.addi v155 v156
  v157.toNat
def k0_dev10 (d0 : Dev nD) : Nat :=
  let c0_i32_119 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_118 : BitVec 32 := 16#32
  let v164 : BitVec 32 := Scalar.muli v29 c16_i32_118
  let v165 : BitVec 32 := Scalar.addi c0_i32_119 v164
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_120 : BitVec 32 := 4#32
  let v166 : BitVec 32 := Scalar.muli v5 c4_i32_120
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_121 : BitVec 32 := 1#32
  let v168 : BitVec 32 := Scalar.muli v8 c1_i32_121
  let v169 : BitVec 32 := Scalar.addi v167 v168
  v169.toNat
def k0_dev11 (d0 : Dev nD) : Nat :=
  let c0_i32_127 : BitVec 32 := 0#32
  let c1_i32_13 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v29 : BitVec 32 := Scalar.subi c1_i32_13 v2
  let c16_i32_126 : BitVec 32 := 16#32
  let v176 : BitVec 32 := Scalar.muli v29 c16_i32_126
  let v177 : BitVec 32 := Scalar.addi c0_i32_127 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v178 : BitVec 32 := Scalar.muli v5 c4_i32_128
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v180 : BitVec 32 := Scalar.muli v8 c1_i32_129
  let v181 : BitVec 32 := Scalar.addi v179 v180
  v181.toNat
def k0_off2 (d0 : Dev nD) (c0_i32_147 : BitVec 32) : Fin 2 → Nat :=
  let c2_i32_18 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v36 : BitVec 32 := Scalar.muli c2_i32_18 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v37 : BitVec 32 := Scalar.addi v36 v28
  let c256_i32 : BitVec 32 := 256#32
  let v38 : BitVec 32 := Scalar.muli v37 c256_i32
  let v202 : BitVec 32 := Scalar.addi v38 c0_i32_147
  let v203 : Index := Scalar.indexCast v202
  let c0_148 : Index := 0#32
  ![v203.toNat, 0]
def k0_dev12 (d0 : Dev nD) : Nat :=
  let c0_i32_154 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_153 : BitVec 32 := 16#32
  let v209 : BitVec 32 := Scalar.muli v2 c16_i32_153
  let v210 : BitVec 32 := Scalar.addi c0_i32_154 v209
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_155 : BitVec 32 := 4#32
  let v211 : BitVec 32 := Scalar.muli v32 c4_i32_155
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v213 : BitVec 32 := Scalar.muli v8 c1_i32_156
  let v214 : BitVec 32 := Scalar.addi v212 v213
  v214.toNat
def k0_dev13 (d0 : Dev nD) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_163 : BitVec 32 := 16#32
  let v221 : BitVec 32 := Scalar.muli v2 c16_i32_163
  let v222 : BitVec 32 := Scalar.addi c0_i32_164 v221
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_165 : BitVec 32 := 4#32
  let v223 : BitVec 32 := Scalar.muli v5 c4_i32_165
  let v224 : BitVec 32 := Scalar.addi v222 v223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_166 : BitVec 32 := 1#32
  let v225 : BitVec 32 := Scalar.muli v35 c1_i32_166
  let v226 : BitVec 32 := Scalar.addi v224 v225
  v226.toNat
def k0_dev14 (d0 : Dev nD) : Nat :=
  let c0_i32_191 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_190 : BitVec 32 := 16#32
  let v254 : BitVec 32 := Scalar.muli v2 c16_i32_190
  let v255 : BitVec 32 := Scalar.addi c0_i32_191 v254
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_192 : BitVec 32 := 4#32
  let v256 : BitVec 32 := Scalar.muli v32 c4_i32_192
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v258 : BitVec 32 := Scalar.muli v8 c1_i32_193
  let v259 : BitVec 32 := Scalar.addi v257 v258
  v259.toNat
def k0_dev15 (d0 : Dev nD) : Nat :=
  let c0_i32_201 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_200 : BitVec 32 := 16#32
  let v266 : BitVec 32 := Scalar.muli v2 c16_i32_200
  let v267 : BitVec 32 := Scalar.addi c0_i32_201 v266
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_202 : BitVec 32 := 4#32
  let v268 : BitVec 32 := Scalar.muli v5 c4_i32_202
  let v269 : BitVec 32 := Scalar.addi v267 v268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_203 : BitVec 32 := 1#32
  let v270 : BitVec 32 := Scalar.muli v35 c1_i32_203
  let v271 : BitVec 32 := Scalar.addi v269 v270
  v271.toNat
def k0_dev16 (d0 : Dev nD) : Nat :=
  let c0_i32_228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_227 : BitVec 32 := 16#32
  let v299 : BitVec 32 := Scalar.muli v2 c16_i32_227
  let v300 : BitVec 32 := Scalar.addi c0_i32_228 v299
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_229 : BitVec 32 := 4#32
  let v301 : BitVec 32 := Scalar.muli v32 c4_i32_229
  let v302 : BitVec 32 := Scalar.addi v300 v301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_230 : BitVec 32 := 1#32
  let v303 : BitVec 32 := Scalar.muli v8 c1_i32_230
  let v304 : BitVec 32 := Scalar.addi v302 v303
  v304.toNat
def k0_dev17 (d0 : Dev nD) : Nat :=
  let c0_i32_238 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_237 : BitVec 32 := 16#32
  let v311 : BitVec 32 := Scalar.muli v2 c16_i32_237
  let v312 : BitVec 32 := Scalar.addi c0_i32_238 v311
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_239 : BitVec 32 := 4#32
  let v313 : BitVec 32 := Scalar.muli v5 c4_i32_239
  let v314 : BitVec 32 := Scalar.addi v312 v313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_240 : BitVec 32 := 1#32
  let v315 : BitVec 32 := Scalar.muli v35 c1_i32_240
  let v316 : BitVec 32 := Scalar.addi v314 v315
  v316.toNat
def k0_dev18 (d0 : Dev nD) : Nat :=
  let c0_i32_265 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_264 : BitVec 32 := 16#32
  let v344 : BitVec 32 := Scalar.muli v2 c16_i32_264
  let v345 : BitVec 32 := Scalar.addi c0_i32_265 v344
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_266 : BitVec 32 := 4#32
  let v346 : BitVec 32 := Scalar.muli v32 c4_i32_266
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v348 : BitVec 32 := Scalar.muli v8 c1_i32_267
  let v349 : BitVec 32 := Scalar.addi v347 v348
  v349.toNat
def k0_dev19 (d0 : Dev nD) : Nat :=
  let c0_i32_275 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_274 : BitVec 32 := 16#32
  let v356 : BitVec 32 := Scalar.muli v2 c16_i32_274
  let v357 : BitVec 32 := Scalar.addi c0_i32_275 v356
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_276 : BitVec 32 := 4#32
  let v358 : BitVec 32 := Scalar.muli v5 c4_i32_276
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_277 : BitVec 32 := 1#32
  let v360 : BitVec 32 := Scalar.muli v35 c1_i32_277
  let v361 : BitVec 32 := Scalar.addi v359 v360
  v361.toNat
def k0_dev20 (d0 : Dev nD) : Nat :=
  let c0_i32_302 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_301 : BitVec 32 := 16#32
  let v389 : BitVec 32 := Scalar.muli v2 c16_i32_301
  let v390 : BitVec 32 := Scalar.addi c0_i32_302 v389
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_303 : BitVec 32 := 4#32
  let v391 : BitVec 32 := Scalar.muli v32 c4_i32_303
  let v392 : BitVec 32 := Scalar.addi v390 v391
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v393 : BitVec 32 := Scalar.muli v8 c1_i32_304
  let v394 : BitVec 32 := Scalar.addi v392 v393
  v394.toNat
def k0_dev21 (d0 : Dev nD) : Nat :=
  let c0_i32_312 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_311 : BitVec 32 := 16#32
  let v401 : BitVec 32 := Scalar.muli v2 c16_i32_311
  let v402 : BitVec 32 := Scalar.addi c0_i32_312 v401
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_313 : BitVec 32 := 4#32
  let v403 : BitVec 32 := Scalar.muli v5 c4_i32_313
  let v404 : BitVec 32 := Scalar.addi v402 v403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_314 : BitVec 32 := 1#32
  let v405 : BitVec 32 := Scalar.muli v35 c1_i32_314
  let v406 : BitVec 32 := Scalar.addi v404 v405
  v406.toNat
def k0_dev22 (d0 : Dev nD) : Nat :=
  let c0_i32_339 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_338 : BitVec 32 := 16#32
  let v434 : BitVec 32 := Scalar.muli v2 c16_i32_338
  let v435 : BitVec 32 := Scalar.addi c0_i32_339 v434
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_340 : BitVec 32 := 4#32
  let v436 : BitVec 32 := Scalar.muli v32 c4_i32_340
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v438 : BitVec 32 := Scalar.muli v8 c1_i32_341
  let v439 : BitVec 32 := Scalar.addi v437 v438
  v439.toNat
def k0_dev23 (d0 : Dev nD) : Nat :=
  let c0_i32_349 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_348 : BitVec 32 := 16#32
  let v446 : BitVec 32 := Scalar.muli v2 c16_i32_348
  let v447 : BitVec 32 := Scalar.addi c0_i32_349 v446
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_350 : BitVec 32 := 4#32
  let v448 : BitVec 32 := Scalar.muli v5 c4_i32_350
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_351 : BitVec 32 := 1#32
  let v450 : BitVec 32 := Scalar.muli v35 c1_i32_351
  let v451 : BitVec 32 := Scalar.addi v449 v450
  v451.toNat
def k0_dev24 (d0 : Dev nD) : Nat :=
  let c0_i32_376 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_375 : BitVec 32 := 16#32
  let v479 : BitVec 32 := Scalar.muli v2 c16_i32_375
  let v480 : BitVec 32 := Scalar.addi c0_i32_376 v479
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_377 : BitVec 32 := 4#32
  let v481 : BitVec 32 := Scalar.muli v32 c4_i32_377
  let v482 : BitVec 32 := Scalar.addi v480 v481
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v483 : BitVec 32 := Scalar.muli v8 c1_i32_378
  let v484 : BitVec 32 := Scalar.addi v482 v483
  v484.toNat
def k0_dev25 (d0 : Dev nD) : Nat :=
  let c0_i32_386 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_385 : BitVec 32 := 16#32
  let v491 : BitVec 32 := Scalar.muli v2 c16_i32_385
  let v492 : BitVec 32 := Scalar.addi c0_i32_386 v491
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_387 : BitVec 32 := 4#32
  let v493 : BitVec 32 := Scalar.muli v5 c4_i32_387
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_388 : BitVec 32 := 1#32
  let v495 : BitVec 32 := Scalar.muli v35 c1_i32_388
  let v496 : BitVec 32 := Scalar.addi v494 v495
  v496.toNat
def k0_dev26 (d0 : Dev nD) : Nat :=
  let c0_i32_413 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_412 : BitVec 32 := 16#32
  let v524 : BitVec 32 := Scalar.muli v2 c16_i32_412
  let v525 : BitVec 32 := Scalar.addi c0_i32_413 v524
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_414 : BitVec 32 := 4#32
  let v526 : BitVec 32 := Scalar.muli v32 c4_i32_414
  let v527 : BitVec 32 := Scalar.addi v525 v526
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_415 : BitVec 32 := 1#32
  let v528 : BitVec 32 := Scalar.muli v8 c1_i32_415
  let v529 : BitVec 32 := Scalar.addi v527 v528
  v529.toNat
def k0_dev27 (d0 : Dev nD) : Nat :=
  let c0_i32_423 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_422 : BitVec 32 := 16#32
  let v536 : BitVec 32 := Scalar.muli v2 c16_i32_422
  let v537 : BitVec 32 := Scalar.addi c0_i32_423 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_424 : BitVec 32 := 4#32
  let v538 : BitVec 32 := Scalar.muli v5 c4_i32_424
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_425 : BitVec 32 := 1#32
  let v540 : BitVec 32 := Scalar.muli v35 c1_i32_425
  let v541 : BitVec 32 := Scalar.addi v539 v540
  v541.toNat
def k0_dev28 (d0 : Dev nD) : Nat :=
  let c0_i32_443 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_442 : BitVec 32 := 16#32
  let v558 : BitVec 32 := Scalar.muli v2 c16_i32_442
  let v559 : BitVec 32 := Scalar.addi c0_i32_443 v558
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_444 : BitVec 32 := 4#32
  let v560 : BitVec 32 := Scalar.muli v5 c4_i32_444
  let v561 : BitVec 32 := Scalar.addi v559 v560
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_445 : BitVec 32 := 1#32
  let v562 : BitVec 32 := Scalar.muli v35 c1_i32_445
  let v563 : BitVec 32 := Scalar.addi v561 v562
  v563.toNat
def k0_off3 (d0 : Dev nD) (c0_i32_452 : BitVec 32) : Fin 2 → Nat :=
  let c2_i32_20 : BitVec 32 := 2#32
  let c1_i32_19 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.subi c1_i32_19 v18
  let v40 : BitVec 32 := Scalar.muli c2_i32_20 v39
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v41 : BitVec 32 := Scalar.addi v40 v28
  let c256_i32_21 : BitVec 32 := 256#32
  let v42 : BitVec 32 := Scalar.muli v41 c256_i32_21
  let v572 : BitVec 32 := Scalar.addi v42 c0_i32_452
  let v573 : Index := Scalar.indexCast v572
  let c0_453 : Index := 0#32
  ![v573.toNat, 0]
def k0_dev29 (d0 : Dev nD) : Nat :=
  let c0_i32_467 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_466 : BitVec 32 := 16#32
  let v585 : BitVec 32 := Scalar.muli v2 c16_i32_466
  let v586 : BitVec 32 := Scalar.addi c0_i32_467 v585
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_468 : BitVec 32 := 4#32
  let v587 : BitVec 32 := Scalar.muli v32 c4_i32_468
  let v588 : BitVec 32 := Scalar.addi v586 v587
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_469 : BitVec 32 := 1#32
  let v589 : BitVec 32 := Scalar.muli v8 c1_i32_469
  let v590 : BitVec 32 := Scalar.addi v588 v589
  v590.toNat
def k0_off4 (d0 : Dev nD) (c0_i32_476 : BitVec 32) : Fin 2 → Nat :=
  let c2_i32_22 : BitVec 32 := 2#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v43 : BitVec 32 := Scalar.muli c2_i32_22 v18
  let c1_i32_23 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v44 : BitVec 32 := Scalar.subi c1_i32_23 v28
  let v45 : BitVec 32 := Scalar.addi v43 v44
  let c256_i32_24 : BitVec 32 := 256#32
  let v46 : BitVec 32 := Scalar.muli v45 c256_i32_24
  let v599 : BitVec 32 := Scalar.addi v46 c0_i32_476
  let v600 : Index := Scalar.indexCast v599
  let c0_477 : Index := 0#32
  ![v600.toNat, 0]
def k0_dev30 (d0 : Dev nD) : Nat :=
  let c0_i32_491 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_490 : BitVec 32 := 16#32
  let v612 : BitVec 32 := Scalar.muli v2 c16_i32_490
  let v613 : BitVec 32 := Scalar.addi c0_i32_491 v612
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_492 : BitVec 32 := 4#32
  let v614 : BitVec 32 := Scalar.muli v5 c4_i32_492
  let v615 : BitVec 32 := Scalar.addi v613 v614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_493 : BitVec 32 := 1#32
  let v616 : BitVec 32 := Scalar.muli v35 c1_i32_493
  let v617 : BitVec 32 := Scalar.addi v615 v616
  v617.toNat
def k0_dev31 (d0 : Dev nD) : Nat :=
  let c0_i32_515 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_514 : BitVec 32 := 16#32
  let v639 : BitVec 32 := Scalar.muli v2 c16_i32_514
  let v640 : BitVec 32 := Scalar.addi c0_i32_515 v639
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_516 : BitVec 32 := 4#32
  let v641 : BitVec 32 := Scalar.muli v32 c4_i32_516
  let v642 : BitVec 32 := Scalar.addi v640 v641
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_517 : BitVec 32 := 1#32
  let v643 : BitVec 32 := Scalar.muli v8 c1_i32_517
  let v644 : BitVec 32 := Scalar.addi v642 v643
  v644.toNat
def k0_dev32 (d0 : Dev nD) : Nat :=
  let c0_i32_538 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_537 : BitVec 32 := 16#32
  let v666 : BitVec 32 := Scalar.muli v2 c16_i32_537
  let v667 : BitVec 32 := Scalar.addi c0_i32_538 v666
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_539 : BitVec 32 := 4#32
  let v668 : BitVec 32 := Scalar.muli v5 c4_i32_539
  let v669 : BitVec 32 := Scalar.addi v667 v668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_540 : BitVec 32 := 1#32
  let v670 : BitVec 32 := Scalar.muli v35 c1_i32_540
  let v671 : BitVec 32 := Scalar.addi v669 v670
  v671.toNat
def k0_dev33 (d0 : Dev nD) : Nat :=
  let c0_i32_562 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_561 : BitVec 32 := 16#32
  let v693 : BitVec 32 := Scalar.muli v2 c16_i32_561
  let v694 : BitVec 32 := Scalar.addi c0_i32_562 v693
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_563 : BitVec 32 := 4#32
  let v695 : BitVec 32 := Scalar.muli v32 c4_i32_563
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_564 : BitVec 32 := 1#32
  let v697 : BitVec 32 := Scalar.muli v8 c1_i32_564
  let v698 : BitVec 32 := Scalar.addi v696 v697
  v698.toNat
def k0_dev34 (d0 : Dev nD) : Nat :=
  let c0_i32_585 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_584 : BitVec 32 := 16#32
  let v720 : BitVec 32 := Scalar.muli v2 c16_i32_584
  let v721 : BitVec 32 := Scalar.addi c0_i32_585 v720
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_586 : BitVec 32 := 4#32
  let v722 : BitVec 32 := Scalar.muli v5 c4_i32_586
  let v723 : BitVec 32 := Scalar.addi v721 v722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_587 : BitVec 32 := 1#32
  let v724 : BitVec 32 := Scalar.muli v35 c1_i32_587
  let v725 : BitVec 32 := Scalar.addi v723 v724
  v725.toNat
def k0_dev35 (d0 : Dev nD) : Nat :=
  let c0_i32_609 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_608 : BitVec 32 := 16#32
  let v747 : BitVec 32 := Scalar.muli v2 c16_i32_608
  let v748 : BitVec 32 := Scalar.addi c0_i32_609 v747
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_610 : BitVec 32 := 4#32
  let v749 : BitVec 32 := Scalar.muli v32 c4_i32_610
  let v750 : BitVec 32 := Scalar.addi v748 v749
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_611 : BitVec 32 := 1#32
  let v751 : BitVec 32 := Scalar.muli v8 c1_i32_611
  let v752 : BitVec 32 := Scalar.addi v750 v751
  v752.toNat
def k0_dev36 (d0 : Dev nD) : Nat :=
  let c0_i32_632 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_631 : BitVec 32 := 16#32
  let v774 : BitVec 32 := Scalar.muli v2 c16_i32_631
  let v775 : BitVec 32 := Scalar.addi c0_i32_632 v774
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_633 : BitVec 32 := 4#32
  let v776 : BitVec 32 := Scalar.muli v5 c4_i32_633
  let v777 : BitVec 32 := Scalar.addi v775 v776
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_634 : BitVec 32 := 1#32
  let v778 : BitVec 32 := Scalar.muli v35 c1_i32_634
  let v779 : BitVec 32 := Scalar.addi v777 v778
  v779.toNat
def k0_dev37 (d0 : Dev nD) : Nat :=
  let c0_i32_656 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_655 : BitVec 32 := 16#32
  let v801 : BitVec 32 := Scalar.muli v2 c16_i32_655
  let v802 : BitVec 32 := Scalar.addi c0_i32_656 v801
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_657 : BitVec 32 := 4#32
  let v803 : BitVec 32 := Scalar.muli v32 c4_i32_657
  let v804 : BitVec 32 := Scalar.addi v802 v803
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_658 : BitVec 32 := 1#32
  let v805 : BitVec 32 := Scalar.muli v8 c1_i32_658
  let v806 : BitVec 32 := Scalar.addi v804 v805
  v806.toNat
def k0_dev38 (d0 : Dev nD) : Nat :=
  let c0_i32_679 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_678 : BitVec 32 := 16#32
  let v828 : BitVec 32 := Scalar.muli v2 c16_i32_678
  let v829 : BitVec 32 := Scalar.addi c0_i32_679 v828
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_680 : BitVec 32 := 4#32
  let v830 : BitVec 32 := Scalar.muli v5 c4_i32_680
  let v831 : BitVec 32 := Scalar.addi v829 v830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_681 : BitVec 32 := 1#32
  let v832 : BitVec 32 := Scalar.muli v35 c1_i32_681
  let v833 : BitVec 32 := Scalar.addi v831 v832
  v833.toNat
def k0_dev39 (d0 : Dev nD) : Nat :=
  let c0_i32_703 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_702 : BitVec 32 := 16#32
  let v855 : BitVec 32 := Scalar.muli v2 c16_i32_702
  let v856 : BitVec 32 := Scalar.addi c0_i32_703 v855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_704 : BitVec 32 := 4#32
  let v857 : BitVec 32 := Scalar.muli v32 c4_i32_704
  let v858 : BitVec 32 := Scalar.addi v856 v857
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_705 : BitVec 32 := 1#32
  let v859 : BitVec 32 := Scalar.muli v8 c1_i32_705
  let v860 : BitVec 32 := Scalar.addi v858 v859
  v860.toNat
def k0_dev40 (d0 : Dev nD) : Nat :=
  let c0_i32_726 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_725 : BitVec 32 := 16#32
  let v882 : BitVec 32 := Scalar.muli v2 c16_i32_725
  let v883 : BitVec 32 := Scalar.addi c0_i32_726 v882
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_727 : BitVec 32 := 4#32
  let v884 : BitVec 32 := Scalar.muli v5 c4_i32_727
  let v885 : BitVec 32 := Scalar.addi v883 v884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_728 : BitVec 32 := 1#32
  let v886 : BitVec 32 := Scalar.muli v35 c1_i32_728
  let v887 : BitVec 32 := Scalar.addi v885 v886
  v887.toNat
def k0_dev41 (d0 : Dev nD) : Nat :=
  let c0_i32_750 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_749 : BitVec 32 := 16#32
  let v909 : BitVec 32 := Scalar.muli v2 c16_i32_749
  let v910 : BitVec 32 := Scalar.addi c0_i32_750 v909
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_751 : BitVec 32 := 4#32
  let v911 : BitVec 32 := Scalar.muli v32 c4_i32_751
  let v912 : BitVec 32 := Scalar.addi v910 v911
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_752 : BitVec 32 := 1#32
  let v913 : BitVec 32 := Scalar.muli v8 c1_i32_752
  let v914 : BitVec 32 := Scalar.addi v912 v913
  v914.toNat
def k0_dev42 (d0 : Dev nD) : Nat :=
  let c0_i32_773 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_772 : BitVec 32 := 16#32
  let v936 : BitVec 32 := Scalar.muli v2 c16_i32_772
  let v937 : BitVec 32 := Scalar.addi c0_i32_773 v936
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_774 : BitVec 32 := 4#32
  let v938 : BitVec 32 := Scalar.muli v5 c4_i32_774
  let v939 : BitVec 32 := Scalar.addi v937 v938
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v33 : BitVec 32 := Scalar.addi v8 c1_i32_16
  let c2_i32_17 : BitVec 32 := 2#32
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v34 : BitVec 32 := Scalar.muli c2_i32_17 v28
  let v35 : BitVec 32 := Scalar.subi v33 v34
  let c1_i32_775 : BitVec 32 := 1#32
  let v940 : BitVec 32 := Scalar.muli v35 c1_i32_775
  let v941 : BitVec 32 := Scalar.addi v939 v940
  v941.toNat
def k0_dev43 (d0 : Dev nD) : Nat :=
  let c0_i32_797 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_796 : BitVec 32 := 16#32
  let v963 : BitVec 32 := Scalar.muli v2 c16_i32_796
  let v964 : BitVec 32 := Scalar.addi c0_i32_797 v963
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_14 : BitVec 32 := 1#32
  let v30 : BitVec 32 := Scalar.addi v5 c1_i32_14
  let c2_i32_15 : BitVec 32 := 2#32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.muli c2_i32_15 v18
  let v32 : BitVec 32 := Scalar.subi v30 v31
  let c4_i32_798 : BitVec 32 := 4#32
  let v965 : BitVec 32 := Scalar.muli v32 c4_i32_798
  let v966 : BitVec 32 := Scalar.addi v964 v965
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_799 : BitVec 32 := 1#32
  let v967 : BitVec 32 := Scalar.muli v8 c1_i32_799
  let v968 : BitVec 32 := Scalar.addi v966 v967
  v968.toNat
def k0_off5 (d0 : Dev nD) (c0_i32_829 : BitVec 32) : Fin 2 → Nat :=
  let c2_i32_26 : BitVec 32 := 2#32
  let c1_i32_25 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v47 : BitVec 32 := Scalar.subi c1_i32_25 v18
  let v48 : BitVec 32 := Scalar.muli c2_i32_26 v47
  let c1_i32_27 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_7 : BitVec 32 := 2#32
  let c0_i32_8 : BitVec 32 := 0#32
  let v19 : BitVec 1 := Scalar.cmpi .eq c2_i32_7 c0_i32_8
  let c1_i32_9 : BitVec 32 := 1#32
  let v20 : BitVec 32 := Scalar.select v19 c1_i32_9 c2_i32_7
  let v21 : BitVec 32 := Scalar.remsi v8 v20
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let c0_i32_10 : BitVec 32 := 0#32
  let v22 : BitVec 1 := Scalar.cmpi .ne v21 c0_i32_10
  let v26 : BitVec 1 := Scalar.andi v25 v22
  let v27 : BitVec 32 := Scalar.addi v21 v20
  let v28 : BitVec 32 := Scalar.select v26 v27 v21
  let v49 : BitVec 32 := Scalar.subi c1_i32_27 v28
  let v50 : BitVec 32 := Scalar.addi v48 v49
  let c256_i32_28 : BitVec 32 := 256#32
  let v51 : BitVec 32 := Scalar.muli v50 c256_i32_28
  let v1002 : BitVec 32 := Scalar.addi v51 c0_i32_829
  let v1003 : Index := Scalar.indexCast v1002
  let c0_830 : Index := 0#32
  ![v1003.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/- The kernel function as a short loop program: eight row chunks, and for each phase one step written at a
   symbolic chunk number. `body_eq_loop` says that the printed function is this program. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Mesh

open Cert.KernelIdeal Cert.KernelIdeal.Gen
open Idealize.ShloMosaic Idealize.ShloMosaic.TcCoe Idealize.SL.Sem

variable {F : FTy → Type} [FloatOps F]

/-! ## The buffers -/

abbrev aM : Memref sig .tc .hbm S1024x4096 .f32 := Memref.whole main_arg0
abbrev bM : Memref sig .tc .hbm S1024x4096 .f32 := Memref.whole main_arg1
abbrev outM : Memref sig .tc .vmem S1024x1024 .f32 := Memref.whole cc0_stg0_0
abbrev dyM : Memref sig .tc .vmem S256x4096 .f32 := Memref.whole cc0_scratch0
abbrev wM : Memref sig .tc .vmem S1024x4096 .f32 := Memref.whole cc0_scratch1
abbrev mineM : Memref sig .tc .vmem S256x1024 .f32 := Memref.whole cc0_scratch2
abbrev mbM : Memref sig .tc .vmem S256x1024 .bf16 := Memref.whole cc0_scratch3
abbrev xcM : Memref sig .tc .vmem S256x1024 .bf16 := Memref.whole cc0_scratch4
abbrev ownM : Memref sig .tc .vmem S256x1024 .bf16 := Memref.whole cc0_scratch5
abbrev yM : Memref sig .tc .vmem S256x1024 .bf16 := Memref.whole cc0_scratch6
abbrev zM : Memref sig .tc .vmem S256x1024 .bf16 := Memref.whole cc0_scratch7
abbrev dM : Memref sig .tc .vmem S256x1024 .bf16 := Memref.whole cc0_scratch8

/-! ## Chunk rectangles, chunk semaphores, addressees -/

theorem inb32 : ∀ (r : Fin 8) a, (![32 * r.val, 0] : Fin 2 → Nat) a + S32x1024.size a ≤ S256x1024.size a := by decide
theorem inbLo : ∀ (r : Fin 8) a, (![32 * r.val, 0] : Fin 2 → Nat) a + S16x1024.size a ≤ S256x1024.size a := by decide
theorem inbHi : ∀ (r : Fin 8) a, (![32 * r.val + 16, 0] : Fin 2 → Nat) a + S16x1024.size a ≤ S256x1024.size a := by decide
theorem inb8 : ∀ (r : Fin 8) a, (![r.val] : Fin 1 → Nat) a + S1.size a ≤ S8.size a := by decide

/-- Rows `32 r … 32 r + 31`. -/
abbrev rows (r : Fin 8) : Rect S256x1024 := Rect.unit (s := S256x1024) ![32 * r.val, 0] S32x1024.size (inb32 r)
/-- Rows `32 r … 32 r + 15`. -/
abbrev rowsLo (r : Fin 8) : Rect S256x1024 := Rect.unit (s := S256x1024) ![32 * r.val, 0] S16x1024.size (inbLo r)
/-- Rows `32 r + 16 … 32 r + 31`. -/
abbrev rowsHi (r : Fin 8) : Rect S256x1024 := Rect.unit (s := S256x1024) ![32 * r.val + 16, 0] S16x1024.size (inbHi r)

/-- Rows `32 r …` of a scratch buffer, as the transfers name them. -/
abbrev ch (M : Memref sig .tc .vmem S256x1024 .bf16) (r : Fin 8) : Memref sig .tc .vmem S32x1024 .bf16 := M.slice (rows r) (fun _ => rfl)
abbrev chLo (M : Memref sig .tc .vmem S256x1024 .bf16) (r : Fin 8) : Memref sig .tc .vmem S16x1024 .bf16 := M.slice (rowsLo r) (fun _ => rfl)
abbrev chHi (M : Memref sig .tc .vmem S256x1024 .bf16) (r : Fin 8) : Memref sig .tc .vmem S16x1024 .bf16 := M.slice (rowsHi r) (fun _ => rfl)

/-- Semaphore `r` of an array of eight. -/
abbrev semAt (a : DmaSems sig S8) (r : Fin 8) : DmaSem sig :=
  ((a.slice (Rect.unit (s := S8) ![r.val] S1.size (inb8 r))).squeeze S_ squeezes_S1_S_).sem

/-- The sections' words: a chunk of a two-byte buffer is a run of whole words. -/
theorem words32 : ∀ r : Fin 8, (rows r).WholeWords (EltTy.packing .bf16) := by decide
theorem wordsLo : ∀ r : Fin 8, (rowsLo r).WholeWords (EltTy.packing .bf16) := by decide
theorem wordsHi : ∀ r : Fin 8, (rowsHi r).WholeWords (EltTy.packing .bf16) := by decide
theorem packed32 : ∀ r : Fin 8, (rows r).PackedRows (EltTy.packing .bf16) := by decide

/-- The addressee of `x` send `r`. -/
def xDev (d : Dev nD) : Fin 8 → Dev nD
  | 0 => ⟨k0_dev4 d, k0_dev4_lt d⟩ | 1 => ⟨k0_dev5 d, k0_dev5_lt d⟩ | 2 => ⟨k0_dev6 d, k0_dev6_lt d⟩
  | 3 => ⟨k0_dev7 d, k0_dev7_lt d⟩ | 4 => ⟨k0_dev8 d, k0_dev8_lt d⟩ | 5 => ⟨k0_dev9 d, k0_dev9_lt d⟩
  | 6 => ⟨k0_dev10 d, k0_dev10_lt d⟩ | 7 => ⟨k0_dev11 d, k0_dev11_lt d⟩
/-- The addressee of `y` send `r`. -/
def yDev (d : Dev nD) : Fin 8 → Dev nD
  | 0 => ⟨k0_dev12 d, k0_dev12_lt d⟩ | 1 => ⟨k0_dev14 d, k0_dev14_lt d⟩ | 2 => ⟨k0_dev16 d, k0_dev16_lt d⟩
  | 3 => ⟨k0_dev18 d, k0_dev18_lt d⟩ | 4 => ⟨k0_dev20 d, k0_dev20_lt d⟩ | 5 => ⟨k0_dev22 d, k0_dev22_lt d⟩
  | 6 => ⟨k0_dev24 d, k0_dev24_lt d⟩ | 7 => ⟨k0_dev26 d, k0_dev26_lt d⟩
/-- The addressee of `z` send `r`. -/
def zDev (d : Dev nD) : Fin 8 → Dev nD
  | 0 => ⟨k0_dev13 d, k0_dev13_lt d⟩ | 1 => ⟨k0_dev15 d, k0_dev15_lt d⟩ | 2 => ⟨k0_dev17 d, k0_dev17_lt d⟩
  | 3 => ⟨k0_dev19 d, k0_dev19_lt d⟩ | 4 => ⟨k0_dev21 d, k0_dev21_lt d⟩ | 5 => ⟨k0_dev23 d, k0_dev23_lt d⟩
  | 6 => ⟨k0_dev25 d, k0_dev25_lt d⟩ | 7 => ⟨k0_dev27 d, k0_dev27_lt d⟩
/-- The addressee of the forwarded upper half-chunk `r`. -/
def zfDev (d : Dev nD) : Fin 8 → Dev nD
  | 0 => ⟨k0_dev28 d, k0_dev28_lt d⟩ | 1 => ⟨k0_dev30 d, k0_dev30_lt d⟩ | 2 => ⟨k0_dev32 d, k0_dev32_lt d⟩
  | 3 => ⟨k0_dev34 d, k0_dev34_lt d⟩ | 4 => ⟨k0_dev36 d, k0_dev36_lt d⟩ | 5 => ⟨k0_dev38 d, k0_dev38_lt d⟩
  | 6 => ⟨k0_dev40 d, k0_dev40_lt d⟩ | 7 => ⟨k0_dev42 d, k0_dev42_lt d⟩
/-- The addressee of the forwarded lower half-chunk `r`. -/
def yfDev (d : Dev nD) : Fin 8 → Dev nD
  | 0 => ⟨k0_dev29 d, k0_dev29_lt d⟩ | 1 => ⟨k0_dev31 d, k0_dev31_lt d⟩ | 2 => ⟨k0_dev33 d, k0_dev33_lt d⟩
  | 3 => ⟨k0_dev35 d, k0_dev35_lt d⟩ | 4 => ⟨k0_dev37 d, k0_dev37_lt d⟩ | 5 => ⟨k0_dev39 d, k0_dev39_lt d⟩
  | 6 => ⟨k0_dev41 d, k0_dev41_lt d⟩ | 7 => ⟨k0_dev43 d, k0_dev43_lt d⟩

/-- Rows of the result that chunk `r` of the own, the `y`, the `z` and the diagonal quarter fill. -/
abbrev oRect0 (d : Dev nD) (r : Fin 8) : Rect S1024x1024 := Rect.unit (s := S1024x1024) (k0_off2 d (BitVec.ofNat 32 (32 * r.val))) S32x1024.size (k0_off2_inb d r)
abbrev oRect1 (d : Dev nD) (r : Fin 8) : Rect S1024x1024 := Rect.unit (s := S1024x1024) (k0_off3 d (BitVec.ofNat 32 (32 * r.val))) S32x1024.size (k0_off3_inb d r)
abbrev oRect2 (d : Dev nD) (r : Fin 8) : Rect S1024x1024 := Rect.unit (s := S1024x1024) (k0_off4 d (BitVec.ofNat 32 (32 * r.val))) S32x1024.size (k0_off4_inb d r)
abbrev oRect3 (d : Dev nD) (r : Fin 8) : Rect S1024x1024 := Rect.unit (s := S1024x1024) (k0_off5 d (BitVec.ofNat 32 (32 * r.val))) S32x1024.size (k0_off5_inb d r)

/-! ## The steps, each followed by a program `k` -/

abbrev PP (F : FTy → Type) : Type 1 := Prog (TpuEff nD τ sig (Elt F) Λ₀ .tc) PUnit

abbrev ww (M : Memref sig .tc .vmem S256x1024 .bf16) (h : M.IsWhole) (r : Fin 8) : (ch M r).view.WordExact :=
  h.wordExact_slice rfl _ (words32 r)
abbrev wwLo (M : Memref sig .tc .vmem S256x1024 .bf16) (h : M.IsWhole) (r : Fin 8) : (chLo M r).view.WordExact :=
  h.wordExact_slice rfl _ (wordsLo r)
abbrev wwHi (M : Memref sig .tc .vmem S256x1024 .bf16) (h : M.IsWhole) (r : Fin 8) : (chHi M r).view.WordExact :=
  h.wordExact_slice rfl _ (wordsHi r)

/-- Send chunk `r` of the own contribution to the `x` neighbour. -/
def xsend (d : Dev nD) (r : Fin 8) (k : PP F) : PP F :=
  .op (.enqueueDma (ch mbM r) (.remote (Dev.tc (xDev d r)) (ch xcM r) (.dma (semAt cc0_scratch11 r))) (.dma (semAt cc0_scratch12 r))
    (ww mbM (Memref.isWhole_whole _) r) (ww xcM (Memref.isWhole_whole _) r) ⟨⟨rfl, Or.inl rfl⟩, trivial⟩) fun _ =>
  k

/-- Wait for the `x` neighbour's chunk `r`, add it, fill the own rows of the result, and send the sum to the `y` and to the `z` neighbour. -/
def reduce (d : Dev nD) (r : Fin 8) (k : PP F) : PP F :=
  .op (.waitDma2 (semAt cc0_scratch12 r) (ch mbM r) (ch xcM r) (ww mbM (Memref.isWhole_whole _) r) (ww xcM (Memref.isWhole_whole _) r)) fun _ =>
  .op (.load mineM (rows r).toLoadRect (View.loadsAt_vmem h_S32x1024)) fun (u : Vec F S32x1024 .f32) =>
  .op (.load xcM (rows r).toLoadRect (View.loadsAt_vmem h_S32x1024)) fun (v : Vec F S32x1024 .bf16) =>
  .op (.load outM (oRect0 d r).toLoadRect (View.loadsAt_vmem h_S32x1024)) fun _ =>
  .op (.store outM (oRect0 d r) (k0_pay3 u v) Finset.univ (View.stores_vmem_bits_univ h_S32x1024 rfl) (.inl rfl)) fun _ =>
  .op (.load ownM (rows r).toLoadRect (View.loadsAt_vmem h_S32x1024)) fun _ =>
  .op (.store ownM (rows r) (k0_pay4 u v) Finset.univ (View.stores_vmem h_S32x1024 ((Memref.isWhole_whole _).storeExact_slice rfl _ (packed32 r)) (fun _ => rfl)) (.inl rfl)) fun _ =>
  .op (.enqueueDma (ch ownM r) (.remote (Dev.tc (yDev d r)) (ch yM r) (.dma (semAt cc0_scratch13 r))) (.dma (semAt cc0_scratch14 r))
    (ww ownM (Memref.isWhole_whole _) r) (ww yM (Memref.isWhole_whole _) r) ⟨⟨rfl, Or.inl rfl⟩, trivial⟩) fun _ =>
  .op (.enqueueDma (ch ownM r) (.remote (Dev.tc (zDev d r)) (ch zM r) (.dma (semAt cc0_scratch15 r))) (.dma (semAt cc0_scratch16 r))
    (ww ownM (Memref.isWhole_whole _) r) (ww zM (Memref.isWhole_whole _) r) ⟨⟨rfl, Or.inl rfl⟩, trivial⟩) fun _ =>
  k

/-- Wait for the `y` neighbour's sum, forward its upper half to the `z` neighbour and copy it into the result. -/
def fwdY (d : Dev nD) (r : Fin 8) (k : PP F) : PP F :=
  .op (.waitDma2 (semAt cc0_scratch14 r) (ch ownM r) (ch yM r) (ww ownM (Memref.isWhole_whole _) r) (ww yM (Memref.isWhole_whole _) r)) fun _ =>
  .op (.enqueueDma (chLo yM r) (.remote (Dev.tc (zfDev d r)) (chLo dM r) (.dma (semAt cc0_scratch19 r))) (.dma (semAt cc0_scratch20 r))
    (wwLo yM (Memref.isWhole_whole _) r) (wwLo dM (Memref.isWhole_whole _) r) ⟨⟨rfl, Or.inl rfl⟩, trivial⟩) fun _ =>
  .op (.load yM (rows r).toLoadRect (View.loadsAt_vmem h_S32x1024)) fun (u : Vec F S32x1024 .bf16) =>
  .op (.load outM (oRect1 d r).toLoadRect (View.loadsAt_vmem h_S32x1024)) fun _ =>
  .op (.store outM (oRect1 d r) (k0_pay21 u) Finset.univ (View.stores_vmem_bits_univ h_S32x1024 rfl) (.inl rfl)) fun _ =>
  k

/-- Wait for the `z` neighbour's sum, forward its lower half to the `y` neighbour and copy it into the result. -/
def fwdZ (d : Dev nD) (r : Fin 8) (k : PP F) : PP F :=
  .op (.waitDma2 (semAt cc0_scratch16 r) (ch ownM r) (ch zM r) (ww ownM (Memref.isWhole_whole _) r) (ww zM (Memref.isWhole_whole _) r)) fun _ =>
  .op (.enqueueDma (chHi zM r) (.remote (Dev.tc (yfDev d r)) (chHi dM r) (.dma (semAt cc0_scratch17 r))) (.dma (semAt cc0_scratch18 r))
    (wwHi zM (Memref.isWhole_whole _) r) (wwHi dM (Memref.isWhole_whole _) r) ⟨⟨rfl, Or.inl rfl⟩, trivial⟩) fun _ =>
  .op (.load zM (rows r).toLoadRect (View.loadsAt_vmem h_S32x1024)) fun (u : Vec F S32x1024 .bf16) =>
  .op (.load outM (oRect2 d r).toLoadRect (View.loadsAt_vmem h_S32x1024)) fun _ =>
  .op (.store outM (oRect2 d r) (k0_pay21 u) Finset.univ (View.stores_vmem_bits_univ h_S32x1024 rfl) (.inl rfl)) fun _ =>
  k

/-- Both halves of chunk `r` forwarded. -/
def forward (d : Dev nD) (r : Fin 8) (k : PP F) : PP F := fwdY d r (fwdZ d r k)

/-- Wait for both halves of the diagonal chunk and copy it into the result. -/
def final (d : Dev nD) (r : Fin 8) (k : PP F) : PP F :=
  .op (.waitDma2 (semAt cc0_scratch20 r) (chLo yM r) (chLo dM r) (wwLo yM (Memref.isWhole_whole _) r) (wwLo dM (Memref.isWhole_whole _) r)) fun _ =>
  .op (.waitDma2 (semAt cc0_scratch18 r) (chHi zM r) (chHi dM r) (wwHi zM (Memref.isWhole_whole _) r) (wwHi dM (Memref.isWhole_whole _) r)) fun _ =>
  .op (.load dM (rows r).toLoadRect (View.loadsAt_vmem h_S32x1024)) fun (u : Vec F S32x1024 .bf16) =>
  .op (.load outM (oRect3 d r).toLoadRect (View.loadsAt_vmem h_S32x1024)) fun _ =>
  .op (.store outM (oRect3 d r) (k0_pay21 u) Finset.univ (View.stores_vmem_bits_univ h_S32x1024 rfl) (.inl rfl)) fun _ =>
  k

/-- Wait until every send of chunk `r` has left. -/
def drain (r : Fin 8) (k : PP F) : PP F :=
  .op (.waitDma2 (semAt cc0_scratch11 r) (ch xcM r) (ch mbM r) (ww xcM (Memref.isWhole_whole _) r) (ww mbM (Memref.isWhole_whole _) r)) fun _ =>
  .op (.waitDma2 (semAt cc0_scratch13 r) (ch yM r) (ch ownM r) (ww yM (Memref.isWhole_whole _) r) (ww ownM (Memref.isWhole_whole _) r)) fun _ =>
  .op (.waitDma2 (semAt cc0_scratch15 r) (ch zM r) (ch ownM r) (ww zM (Memref.isWhole_whole _) r) (ww ownM (Memref.isWhole_whole _) r)) fun _ =>
  .op (.waitDma2 (semAt cc0_scratch19 r) (chLo dM r) (chLo yM r) (wwLo dM (Memref.isWhole_whole _) r) (wwLo yM (Memref.isWhole_whole _) r)) fun _ =>
  .op (.waitDma2 (semAt cc0_scratch17 r) (chHi dM r) (chHi zM r) (wwHi dM (Memref.isWhole_whole _) r) (wwHi zM (Memref.isWhole_whole _) r)) fun _ =>
  k

/-- The eight chunks in order, then `k`. -/
def chunks (f : Fin 8 → PP F → PP F) (k : PP F) : PP F := f 0 (f 1 (f 2 (f 3 (f 4 (f 5 (f 6 (f 7 k)))))))

/-- The own quarter of the first operand, in HBM. -/
abbrev aQ (d : Dev nD) : Memref sig .tc .hbm S256x4096 .f32 :=
  aM.slice (Rect.unit (s := S1024x4096) (k0_off1 d) S256x4096.size (k0_off1_inb d)) (fun _ => rfl)
abbrev dyAll : Memref sig .tc .vmem S256x4096 .f32 := dyM.slice (Rect.unit (s := S256x4096) ![0, 0] S256x4096.size inb_S256x4096_S256x4096_0_0) (fun _ => rfl)
abbrev dySem : DmaSem sig := ((cc0_scratch9.slice (Rect.unit (s := S1) ![0] S1.size inb_S1_S1_0)).squeeze S_ squeezes_S1_S_).sem
abbrev barSem : Sem sig := (SemArray.scalar (sig.barrier 0 rfl) : Sems sig S_).sem
abbrev all4096q : Rect S256x4096 := Rect.unit (s := S256x4096) ![0, 0] S256x4096.size inb_S256x4096_S256x4096_0_0
abbrev all4096 : Rect S1024x4096 := Rect.unit (s := S1024x4096) ![0, 0] S1024x4096.size inb_S1024x4096_S1024x4096_0_0
abbrev all1024 : Rect S256x1024 := Rect.unit (s := S256x1024) ![0, 0] S256x1024.size inb_S256x1024_S256x1024_0_0

/-- Bring the operands in, tell the three neighbours that this device is ready and wait for them, and multiply. -/
def prelude (d : Dev nD) (k : PP F) : PP F :=
  .op (.enqueueDma bM (.here wM) (.dma cc0_scratch10.sem) (Memref.isWhole_whole main_arg1).wordExact (Memref.isWhole_whole cc0_scratch1).wordExact ⟨Or.inl rfl, trivial⟩) fun _ =>
  .op (.enqueueDma (aQ d) (.here dyAll) (.dma dySem) (View.wordExact_bits rfl) (View.wordExact_bits rfl) ⟨Or.inl rfl, trivial⟩) fun _ =>
  .op (.semSignal (Dev.tc (⟨k0_dev1 d, k0_dev1_lt d⟩ : Dev nD)) barSem (1#32 : BitVec 32).toInt) fun _ =>
  .op (.semSignal (Dev.tc (⟨k0_dev2 d, k0_dev2_lt d⟩ : Dev nD)) barSem (1#32 : BitVec 32).toInt) fun _ =>
  .op (.semSignal (Dev.tc (⟨k0_dev3 d, k0_dev3_lt d⟩ : Dev nD)) barSem (1#32 : BitVec 32).toInt) fun _ =>
  .op (.semWait barSem (3#32 : BitVec 32).toInt) fun _ =>
  .op (.waitDma2 cc0_scratch10.sem bM wM (Memref.isWhole_whole main_arg1).wordExact (Memref.isWhole_whole cc0_scratch1).wordExact) fun _ =>
  .op (.waitDma2 dySem (aQ d) dyAll (View.wordExact_bits rfl) (View.wordExact_bits rfl)) fun _ =>
  .op (.load dyM all4096q.toLoadRect (View.loadsAt_vmem h_S256x4096)) fun (u : Vec F S256x4096 .f32) =>
  .op (.load wM all4096.toLoadRect (View.loadsAt_vmem h_S1024x4096)) fun (w : Vec F S1024x4096 .f32) =>
  .op (.load mineM all1024.toLoadRect (View.loadsAt_vmem h_S256x1024)) fun _ =>
  .op (.store mineM all1024 (k0_pay1 u w) Finset.univ (View.stores_vmem_bits_univ h_S256x1024 rfl) (.inl rfl)) fun _ =>
  .op (.load mineM all1024.toLoadRect (View.loadsAt_vmem h_S256x1024)) fun (p : Vec F S256x1024 .f32) =>
  .op (.load mbM all1024.toLoadRect (View.loadsAt_vmem h_S256x1024)) fun _ =>
  .op (.store mbM all1024 (k0_pay2 p) Finset.univ (View.stores_vmem h_S256x1024 ((Memref.isWhole_whole _).storeExact_slice rfl _ packedbf16_S256x1024_S256x1024_0_0) (fun _ => rfl)) (.inl rfl)) fun _ =>
  k

/-- The whole kernel function on device `d`, after it has asked which device it runs on. -/
def loop (d : Dev nD) : PP F :=
  prelude d (chunks (xsend d) (chunks (reduce d) (chunks (forward d) (chunks (final d) (chunks drain (.ret ⟨⟩))))))

set_option maxRecDepth 1000000 in
set_option maxHeartbeats 4000000 in
/-- The printed kernel function is the loop program. -/
theorem body_eq_loop (t : Fin cfg0.N) : bodyAt0 (F := F) t = .op .deviceId fun d => loop d := by
  rw [bodyAt0, cc0_body_eq_skeleton]
  rfl

end Cert.KernelIdeal.Mesh

end
-- ==== Proof.Mesh.lean ====
/- The mesh's three neighbours, the closed forms of the printed device numbers and offsets, the contents every
   buffer has along the run, and the geometry of the chunks. -/
module

public import proofs.«01_k».proof.Proof.Steps

@[expose] public section

noncomputable section

namespace Cert.KernelIdeal.Mesh

open Cert.KernelIdeal Cert.KernelIdeal.Gen
open Idealize.ShloMosaic Idealize.ShloMosaic.TcCoe Idealize.SL.Sem

variable {F : FTy → Type} [FloatOps F]

/-! ## Neighbours -/

set_option backward.proofsInPublic true in
/-- The device with the other `x` coordinate. -/
def xp (c : Dev nD) : Dev nD := ⟨(c.val + 16) % 32, Nat.mod_lt _ (by decide)⟩
set_option backward.proofsInPublic true in
/-- The device whose `y` coordinate differs in the last bit. -/
def yn (c : Dev nD) : Dev nD := ⟨c.val + 4 - 8 * ((c.val / 4) % 2), by have h : c.val < 32 := c.isLt; show _ < 32; omega⟩
set_option backward.proofsInPublic true in
/-- The device whose `z` coordinate differs in the last bit. -/
def zn (c : Dev nD) : Dev nD := ⟨c.val + 1 - 2 * (c.val % 2), by have h : c.val < 32 := c.isLt; show _ < 32; omega⟩

theorem xp_xp : ∀ c : Dev nD, xp (xp c) = c := by decide
theorem yn_yn : ∀ c : Dev nD, yn (yn c) = c := by decide
theorem zn_zn : ∀ c : Dev nD, zn (zn c) = c := by decide
theorem zn_yn : ∀ c : Dev nD, zn (yn c) = yn (zn c) := by decide

/-- The quarter of the result a device computes itself. -/
def own (c : Dev nD) : ℕ := 2 * ((c.val / 4) % 2) + c.val % 2

theorem dev1_eq : ∀ c : Dev nD, (⟨k0_dev1 c, k0_dev1_lt c⟩ : Dev nD) = xp c := by decide
theorem dev2_eq : ∀ c : Dev nD, (⟨k0_dev2 c, k0_dev2_lt c⟩ : Dev nD) = yn c := by decide
theorem dev3_eq : ∀ c : Dev nD, (⟨k0_dev3 c, k0_dev3_lt c⟩ : Dev nD) = zn c := by decide
theorem xDev_eq : ∀ (c : Dev nD) (r : Fin 8), xDev c r = xp c := by decide +kernel
theorem yDev_eq : ∀ (c : Dev nD) (r : Fin 8), yDev c r = yn c := by decide +kernel
theorem zDev_eq : ∀ (c : Dev nD) (r : Fin 8), zDev c r = zn c := by decide +kernel
theorem zfDev_eq : ∀ (c : Dev nD) (r : Fin 8), zfDev c r = zn c := by decide +kernel
theorem yfDev_eq : ∀ (c : Dev nD) (r : Fin 8), yfDev c r = yn c := by decide +kernel

theorem off1_eq : ∀ c : Dev nD, k0_off1 c = ![256 * own c, 0] := by decide +kernel
theorem off2_eq : ∀ (c : Dev nD) (r : Fin 8), k0_off2 c (BitVec.ofNat 32 (32 * r.val)) = ![256 * own c + 32 * r.val, 0] := by decide +kernel
theorem off3_eq : ∀ (c : Dev nD) (r : Fin 8), k0_off3 c (BitVec.ofNat 32 (32 * r.val)) = ![256 * own (yn c) + 32 * r.val, 0] := by decide +kernel
theorem off4_eq : ∀ (c : Dev nD) (r : Fin 8), k0_off4 c (BitVec.ofNat 32 (32 * r.val)) = ![256 * own (zn c) + 32 * r.val, 0] := by decide +kernel
theorem off5_eq : ∀ (c : Dev nD) (r : Fin 8), k0_off5 c (BitVec.ofNat 32 (32 * r.val)) = ![256 * own (yn (zn c)) + 32 * r.val, 0] := by decide +kernel

/-- The device whose quarter is the `j`-th to be filled: the device itself, its `y`, its `z` and its diagonal neighbour. -/
def src (c : Dev nD) : Fin 4 → Dev nD | 0 => c | 1 => yn c | 2 => zn c | 3 => yn (zn c)

theorem own_lt : ∀ c : Dev nD, own c < 4 := by decide
theorem own_src_inj : ∀ (c : Dev nD) (i j : Fin 4), own (src c i) = own (src c j) → i = j := by decide
theorem own_src_surj : ∀ (c : Dev nD) (q : Fin 4), ∃ j : Fin 4, own (src c j) = q.val := by decide

/-! ## Contents -/

section Contents
variable (A B : Dev nD → Vec F S1024x4096 .f32)

/-- The own quarter of the first operand. -/
def dyC (c : Dev nD) : Vec F S256x4096 .f32 := (aQ c).view.read (Elt F) (A c)
/-- The product of the own quarter and the second operand. -/
def mineC (c : Dev nD) : Vec F S256x1024 .f32 := k0_pay1 (dyC A c) (B c)
/-- The same rounded, as it is sent. -/
def mbC (c : Dev nD) : Vec F S256x1024 .bf16 := k0_pay2 (mineC A B c)
/-- What the `x` neighbour sends. -/
def xcC (c : Dev nD) : Vec F S256x1024 .bf16 := mbC A B (xp c)
/-- The sum of the own product and the `x` neighbour's. -/
def redC (c : Dev nD) : Vec F S256x1024 .f32 := fun i => FloatOps.addf (mineC A B c i) (FloatOps.extf .f32 bitsLt_bf16_f32 (xcC A B c i))
/-- The sum rounded, as it is sent on. -/
def ownC (c : Dev nD) : Vec F S256x1024 .bf16 := fun i => FloatOps.truncf .bf16 bitsLt_bf16_f32 (redC A B c i)
def yC (c : Dev nD) : Vec F S256x1024 .bf16 := ownC A B (yn c)
def zC (c : Dev nD) : Vec F S256x1024 .bf16 := ownC A B (zn c)
def dC (c : Dev nD) : Vec F S256x1024 .bf16 := ownC A B (yn (zn c))

/-- The quarter filled `j`-th. -/
def quarterC (c : Dev nD) : Fin 4 → Vec F S256x1024 .f32
  | 0 => redC A B c
  | 1 => fun i => FloatOps.extf .f32 bitsLt_bf16_f32 (yC A B c i)
  | 2 => fun i => FloatOps.extf .f32 bitsLt_bf16_f32 (zC A B c i)
  | 3 => fun i => FloatOps.extf .f32 bitsLt_bf16_f32 (dC A B c i)

/-- Row `i` of the result lies in quarter `i / 256`. -/
def quarterOf (c : Dev nD) (i : S1024x1024.Idx) : Fin 4 := (own_src_surj c ⟨(i 0).val / 256, by
  have h : (i 0).val < 1024 := (i 0).isLt
  omega⟩).choose

/-- The place of an element of the result within its quarter. -/
def inQuarter (i : S1024x1024.Idx) : S256x1024.Idx :=
  fun a => match a with
    | ⟨0, _⟩ => (⟨(i 0).val % 256, Nat.mod_lt _ (by decide)⟩ : Fin 256)
    | ⟨1, _⟩ => (⟨(i 1).val, (i 1).isLt⟩ : Fin 1024)

/-- The result. -/
def outC (c : Dev nD) : Vec F S1024x1024 .f32 := fun i => quarterC A B c (quarterOf c i) (inQuarter i)

end Contents

/-! ## Geometry -/

theorem mem_rows {r : Fin 8} {i : S256x1024.Idx} : i ∈ (rows r).set ↔ (i 0).val / 32 = r.val := by
  have h0 : (i 0).val < 256 := (i 0).isLt
  have h1 : (i 1).val < 1024 := (i 1).isLt
  rw [Rect.mem_set_unit, Fin.forall_fin_two]
  simp only [Matrix.cons_val_zero, Matrix.cons_val_one]
  show (_ ∧ _ < _ + 32) ∧ (_ ∧ _ < _ + 1024) ↔ _
  omega

theorem mem_rowsLo {r : Fin 8} {i : S256x1024.Idx} : i ∈ (rowsLo r).set ↔ (i 0).val / 16 = 2 * r.val := by
  have h0 : (i 0).val < 256 := (i 0).isLt
  have h1 : (i 1).val < 1024 := (i 1).isLt
  rw [Rect.mem_set_unit, Fin.forall_fin_two]
  simp only [Matrix.cons_val_zero, Matrix.cons_val_one]
  show (_ ∧ _ < _ + 16) ∧ (_ ∧ _ < _ + 1024) ↔ _
  omega

theorem mem_rowsHi {r : Fin 8} {i : S256x1024.Idx} : i ∈ (rowsHi r).set ↔ (i 0).val / 16 = 2 * r.val + 1 := by
  have h0 : (i 0).val < 256 := (i 0).isLt
  have h1 : (i 1).val < 1024 := (i 1).isLt
  rw [Rect.mem_set_unit, Fin.forall_fin_two]
  simp only [Matrix.cons_val_zero, Matrix.cons_val_one]
  show (_ ∧ _ < _ + 16) ∧ (_ ∧ _ < _ + 1024) ↔ _
  omega

section Chunks
variable {e : EltTy} (v : View sig .tc .vmem S256x1024 e)

/-- The chunks of a buffer do not meet, -/
theorem rows_disjoint (r r' : Fin 8) (h : r ≠ r') : Disjoint (v.slice (rows r)).set (v.slice (rows r')).set := by
  rw [View.set_slice, View.set_slice, Finset.disjoint_map]
  exact Finset.disjoint_left.mpr fun i h1 h2 => h (Fin.ext ((mem_rows.mp h1).symm.trans (mem_rows.mp h2)))

/-- and make it up; -/
theorem rows_cover : (Finset.univ.biUnion fun r : Fin 8 => (v.slice (rows r)).set) = v.set := by
  ext i
  simp only [Finset.mem_biUnion, Finset.mem_univ, true_and, View.set_slice]
  constructor
  · rintro ⟨r, hr⟩
    exact Finset.map_subset_map.mpr (Finset.subset_univ _) hr
  · intro hi
    obtain ⟨x, -, rfl⟩ := Finset.mem_map.mp hi
    have h0 : (x 0).val < 256 := (x 0).isLt
    exact ⟨⟨(x 0).val / 32, by omega⟩, Finset.mem_map_of_mem _ (mem_rows.mpr rfl)⟩

/-- a chunk is its upper and its lower half, -/
theorem rows_halves (r : Fin 8) : (v.slice (rows r)).set = (v.slice (rowsLo r)).set ∪ (v.slice (rowsHi r)).set := by
  rw [View.set_slice, View.set_slice, View.set_slice, ← Finset.map_union]
  congr 1
  ext i
  rw [Finset.mem_union, mem_rows, mem_rowsLo, mem_rowsHi]
  omega

/-- which do not meet. -/
theorem halves_disjoint (r : Fin 8) : Disjoint (v.slice (rowsLo r)).set (v.slice (rowsHi r)).set := by
  rw [View.set_slice, View.set_slice, Finset.disjoint_map]
  exact Finset.disjoint_left.mpr fun i h1 h2 => by
    have a := mem_rowsLo.mp h1
    have b := mem_rowsHi.mp h2
    omega

end Chunks

/-- Rows `32 r … 32 r + 31` of the quarter filled `j`-th. -/
def oSet (c : Dev nD) (x : Fin 4 × Fin 8) : Finset S1024x1024.Idx :=
  Finset.univ.filter fun i => (i 0).val / 32 = 8 * own (src c x.1) + x.2.val

theorem oSet_disjoint (c : Dev nD) (x y : Fin 4 × Fin 8) (h : x ≠ y) : Disjoint (oSet c x) (oSet c y) := by
  refine Finset.disjoint_left.mpr fun i h1 h2 => h ?_
  have a := (Finset.mem_filter.mp h1).2
  have b := (Finset.mem_filter.mp h2).2
  have hx := x.2.isLt
  have hy := y.2.isLt
  exact Prod.ext (own_src_inj c _ _ (by omega)) (Fin.ext (by omega))

theorem oSet_cover (c : Dev nD) : Finset.univ.biUnion (oSet c) = Finset.univ := by
  refine Finset.eq_univ_iff_forall.mpr fun i => Finset.mem_biUnion.mpr ?_
  have h0 : (i 0).val < 1024 := (i 0).isLt
  obtain ⟨j, hj⟩ := own_src_surj c ⟨(i 0).val / 256, by omega⟩
  exact ⟨(j, ⟨(i 0).val / 32 % 8, by omega⟩), Finset.mem_univ _, Finset.mem_filter.mpr ⟨Finset.mem_univ _, by
    have h2 : own (src c j) = (i 0).val / 256 := hj
    show _ = 8 * own (src c j) + (i 0).val / 32 % 8
    omega⟩⟩

section Out
variable (c : Dev nD) (j : Fin 4) (r : Fin 8) {off : Fin 2 → ℕ} (h : off = ![256 * own (src c j) + 32 * r.val, 0])
  (inb : ∀ a, off a + S32x1024.size a ≤ S1024x1024.size a)

include h in
theorem oSet_eq : (Rect.unit (s := S1024x1024) off S32x1024.size inb).set = oSet c (j, r) := by
  subst h
  ext i
  have h1 : (i 1).val < 1024 := (i 1).isLt
  have hr := r.isLt
  rw [Rect.mem_set_unit, Fin.forall_fin_two]
  simp only [Matrix.cons_val_zero, Matrix.cons_val_one, oSet, Finset.mem_filter, Finset.mem_univ, true_and]
  show (_ ∧ _ < _ + 32) ∧ (_ ∧ _ < _ + 1024) ↔ _
  omega

include h in
/-- On those rows the result is the quarter's rows. -/
theorem outC_at (A B : Dev nD → Vec F S1024x4096 .f32) (p : S32x1024.Idx) :
    outC A B c ((Rect.unit (s := S1024x1024) off S32x1024.size inb).idx p) = quarterC A B c j ((rows r).idx p) := by
  subst h
  have hp : (p 0).val < 32 := (p 0).isLt
  have hr := r.isLt
  have hown := own_lt (src c j)
  have e0 : (((Rect.unit (s := S1024x1024) ![256 * own (src c j) + 32 * r.val, 0] S32x1024.size inb).idx p) 0).val
      = 256 * own (src c j) + 32 * r.val + (p 0).val := by
    show _ + 1 * _ = _
    simp
  have e1 : (((Rect.unit (s := S1024x1024) ![256 * own (src c j) + 32 * r.val, 0] S32x1024.size inb).idx p) 1).val = (p 1).val := by
    show _ + 1 * _ = _
    simp
  have hq : quarterOf c ((Rect.unit (s := S1024x1024) ![256 * own (src c j) + 32 * r.val, 0] S32x1024.size inb).idx p) = j := by
    refine own_src_inj c _ _ ?_
    refine (Exists.choose_spec (own_src_surj c _)).trans ?_
    show (_ : ℕ) / 256 = _
    rw [e0]; omega
  have hi : inQuarter ((Rect.unit (s := S1024x1024) ![256 * own (src c j) + 32 * r.val, 0] S32x1024.size inb).idx p) = (rows r).idx p := by
    funext a
    refine Fin.ext ?_
    match a with
    | ⟨0, _⟩ =>
      show (_ : ℕ) % 256 = (32 * r.val + 1 * (p 0).val : ℕ)
      rw [e0]; omega
    | ⟨1, _⟩ =>
      refine e1.trans ?_
      show _ = (0 + 1 * (p 1).val : ℕ)
      omega
  unfold outC
  rw [hq, hi]

end Out

/-- An unmasked write through a view leaves, on the view's elements, any contents the written values are read from. -/
theorem write_lands {κ : Kind} {sp : Space} {s : Shape} {e : EltTy} (v : View sig κ sp s e) (f g : v.ty.shape.Idx → Elt F v.ty.elt) (w : Vec F s e)
    (h : ∀ p, w p = v.read (Elt F) g p) : ∀ i ∈ v.set, v.write (Elt F) f w Finset.univ i = g i := by
  intro i hi
  obtain ⟨p, -, rfl⟩ := Finset.mem_map.mp hi
  have hw : w = v.read (Elt F) g := funext h
  rw [hw]
  simp [View.write_emb_of_mem, View.read]

end Cert.KernelIdeal.Mesh

end
-- ==== Proof.Sched.lean ====
/- The semaphores of the kernel as cells, what each cell's units hand over, in which order cells are waited on,
   and what a device owes to the cells of its neighbours. -/
module

public import proofs.«01_k».proof.Proof.Mesh

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The transfer semaphores: the two operands' and ten families of eight. -/
abbrev KD : Type := Fin 2 ⊕ (Fin 10 × Fin 8)
/-- All semaphores of the kernel: the barrier first. -/
abbrev CK : Type := Unit ⊕ KD
/-- What a device pays with: its three signals and its transfers. -/
abbrev TK : Type := Fin 3 ⊕ KD

/-- The ten families, in the order of the printed scratch operands. -/
def fam : Fin 10 → DmaSems sig S8
  | 0 => cc0_scratch11 | 1 => cc0_scratch12 | 2 => cc0_scratch13 | 3 => cc0_scratch14 | 4 => cc0_scratch15
  | 5 => cc0_scratch16 | 6 => cc0_scratch17 | 7 => cc0_scratch18 | 8 => cc0_scratch19 | 9 => cc0_scratch20

def dsem : KD → DmaSem sig
  | .inl 0 => cc0_scratch10.sem
  | .inl 1 => dySem
  | .inr (k, r) => semAt (fam k) r

def csem : CK → SemLoc sig
  | .inl _ => .reg barSem
  | .inr j => .dma (dsem j)

abbrev kcell (x : Dev nD × CK) : GSem nD τ sig := ((x.1 : Thread nD τ), csem x.2)

theorem dsem_val : ∀ j : KD, (dsem j).val = match j with
    | .inl i => 2 - i.val
    | .inr (k, r) => 3 + 8 * k.val + r.val := by decide +kernel

theorem dsem_inj : Function.Injective dsem := by
  intro i j h
  have e : (dsem i).val = (dsem j).val := congrArg Fin.val h
  rw [dsem_val, dsem_val] at e
  rcases i with i | ⟨k, r⟩ <;> rcases j with j | ⟨k', r'⟩ <;> simp only at e
  · exact congrArg _ (Fin.ext (by omega))
  · omega
  · omega
  · have h1 : k = k' := Fin.ext (by omega)
    have h2 : r = r' := Fin.ext (by omega)
    rw [h1, h2]

theorem dsem_pos (j : KD) : 0 < (dsem j).val := by
  rw [dsem_val]
  rcases j with i | ⟨k, r⟩ <;> simp only <;> omega

theorem csem_inj : Function.Injective csem := by
  intro a b h
  rcases a with a | a <;> rcases b with b | b
  · rfl
  · exact absurd h (by simp [csem])
  · exact absurd h (by simp [csem])
  · exact congrArg Sum.inr (dsem_inj (by simpa [csem] using h))

theorem kcell_inj : Function.Injective kcell := by
  rintro ⟨c, a⟩ ⟨c', b⟩ h
  have h1 : (c : Thread nD τ) = (c' : Thread nD τ) := congrArg Prod.fst h
  have h2 : csem a = csem b := congrArg Prod.snd h
  have h3 : c = c' := congrArg Prod.fst h1
  rw [h3, csem_inj h2]

open Classical in
/-- Which of the kernel's cells a semaphore is, if any. -/
def decode (g : GSem nD τ sig) : Option (Dev nD × CK) := if h : ∃ x, kcell x = g then some h.choose else none

theorem decode_kcell (x : Dev nD × CK) : decode (kcell x) = some x := by
  have h : ∃ y, kcell y = kcell x := ⟨x, rfl⟩
  unfold decode
  rw [dif_pos h, kcell_inj h.choose_spec]

theorem decode_none {g : GSem nD τ sig} (h : ∀ x, kcell x ≠ g) : decode g = none := by
  unfold decode
  rw [dif_neg fun ⟨x, hx⟩ => h x hx]

/-! ## Amounts -/

/-- The credit of a transfer of 32 rows, and of 16. -/
def N32 : ℕ := (ch xcM 0).view.dmaCredit
def N16 : ℕ := (chLo dM 0).view.dmaCredit

/-- What one contribution to a cell credits. -/
def amt : CK → ℕ
  | .inl _ => 1
  | .inr (.inl 0) => wM.view.dmaCredit
  | .inr (.inl 1) => dyAll.view.dmaCredit
  | .inr (.inr (k, _)) => if k.val < 6 then N32 else N16

theorem amt_pos (k : CK) : 0 < amt k := by
  have h32 : 0 < N32 := View.dmaCredit_pos _ (by decide)
  have h16 : 0 < N16 := View.dmaCredit_pos _ (by decide)
  rcases k with k | k | ⟨k, r⟩
  · exact Nat.one_pos
  · fin_cases k
    · exact View.dmaCredit_pos wM.view (by decide)
    · exact View.dmaCredit_pos dyAll.view (by decide)
  · show 0 < if k.val < 6 then N32 else N16
    split <;> assumption

/-! ## What is handed over -/

/-- The elements under a view, held on device `c` at share `q` and contents `f`. -/
abbrev vpts {sp : Space} {s : Shape} {e : EltTy} (v : View sig .tc sp s e) (c : Dev nD) (q : PosShare TreeShare)
    (f : Buf (Elt F) (v.loc (c : Thread nD τ))) : sProp 𝕄 := v.loc (c : Thread nD τ) ↦[v.set]{q} f

/-- The same at unknown contents. -/
abbrev vany {sp : Space} {s : Shape} {e : EltTy} (v : View sig .tc sp s e) (c : Dev nD) : sProp 𝕄 :=
  iprop(∃ f : Buf (Elt F) (v.loc (c : Thread nD τ)), vpts v c fullShare f)

section Pay
variable (A B : Dev nD → Vec F S1024x4096 .f32)

/-- What chunk `r` of each family of transfers hands over on device `c`. -/
def chunkPay (c : Dev nD) (r : Fin 8) : Fin 10 → sProp 𝕄
  | 0 => vpts (ch mbM r).view c fullShare (mbC A B c)
  | 1 => vpts (ch xcM r).view c fullShare (xcC A B c)
  | 2 => vpts (ch ownM r).view c fullShare.left (ownC A B c)
  | 3 => vpts (ch yM r).view c fullShare (yC A B c)
  | 4 => vpts (ch ownM r).view c fullShare.right (ownC A B c)
  | 5 => vpts (ch zM r).view c fullShare (zC A B c)
  | 6 => vpts (chHi zM r).view c fullShare.left (zC A B c)
  | 7 => vpts (chHi dM r).view c fullShare (dC A B c)
  | 8 => vpts (chLo yM r).view c fullShare.left (yC A B c)
  | 9 => vpts (chLo dM r).view c fullShare (dC A B c)

/-- What a neighbour's signal hands over: the buffers this device will write there. -/
def barPay (c : Dev nD) : Fin 3 → sProp 𝕄
  | 0 => bigSep Finset.univ fun r : Fin 8 => vany (ch xcM r).view (xp c)
  | 1 => bigSep Finset.univ fun r : Fin 8 => iprop(vany (ch yM r).view (yn c) ∗ vany (chHi dM r).view (yn c))
  | 2 => bigSep Finset.univ fun r : Fin 8 => iprop(vany (ch zM r).view (zn c) ∗ vany (chLo dM r).view (zn c))

/-- What a contribution to a cell of device `c` hands over. -/
def pay (c : Dev nD) : CK → Fin 3 → sProp 𝕄
  | .inl _, d => barPay c d
  | .inr (.inl 0), _ => iprop(vpts wM.view c fullShare (B c) ∗ vpts bM.view c fullShare (B c))
  | .inr (.inl 1), _ => iprop(vpts dyAll.view c fullShare (dyC A c) ∗ vpts (aQ c).view c fullShare (A c))
  | .inr (.inr (k, r)), _ => chunkPay A B c r k

set_option synthInstance.maxHeartbeats 400000 in
instance pay_storable (c : Dev nD) (k : CK) (d : Fin 3) : BI.Storable (upEmb : UEmb _ 𝕄) (pay A B c k d) := by
  rcases k with k | k | ⟨k, r⟩
  · fin_cases d <;> simp only [pay, barPay] <;> infer_instance
  · fin_cases k <;> simp only [pay] <;> infer_instance
  · fin_cases k <;> simp only [pay, chunkPay] <;> infer_instance

/-- One round at every cell: three contributions at a barrier, one at every other cell. -/
def sched : Rounds.Schedule (GSem nD τ sig) (Fin 3) 𝕄 where
  duties g r := if r = 0 then (match decode g with
    | none => ∅
    | some (_, .inl _) => Finset.univ
    | some (_, .inr _) => {0}) else ∅
  unitless _ := False
  amount g _ _ := match decode g with | none => 1 | some x => amt x.2
  payload g _ d := match decode g with | none => iprop(emp) | some x => pay A B x.1 x.2 d
  amount_pos g _ _ _ := by
    cases decode g with
    | none => exact Nat.one_pos
    | some x => exact amt_pos x.2

instance sched_storable (g : GSem nD τ sig) (r : ℕ) (d : Fin 3) :
    BI.Storable (upEmb : UEmb _ 𝕄) ((sched (F := F) A B).payload g r d) := by
  simp only [sched]
  cases decode g with
  | none => infer_instance
  | some x => exact pay_storable A B x.1 x.2 d

theorem duties_bar (c : Dev nD) (u : Unit) : (sched (F := F) A B).duties (kcell (c, .inl u)) 0 = Finset.univ := by
  dsimp only [sched]; rw [if_pos rfl, decode_kcell]
theorem duties_dma (c : Dev nD) (j : KD) : (sched (F := F) A B).duties (kcell (c, .inr j)) 0 = {0} := by
  dsimp only [sched]; rw [if_pos rfl, decode_kcell]
theorem duties_later (g : GSem nD τ sig) (r : ℕ) (hr : 1 ≤ r) : (sched (F := F) A B).duties g r = ∅ := by
  dsimp only [sched]; rw [if_neg (by omega)]
theorem amount_eq (x : Dev nD × CK) (r : ℕ) (d : Fin 3) : (sched (F := F) A B).amount (kcell x) r d = amt x.2 := by
  dsimp only [sched]; rw [decode_kcell]
theorem payload_eq (x : Dev nD × CK) (r : ℕ) (d : Fin 3) : (sched (F := F) A B).payload (kcell x) r d = pay A B x.1 x.2 d := by
  dsimp only [sched]; rw [decode_kcell]
theorem expect_bar (c : Dev nD) (u : Unit) : (sched (F := F) A B).expect (kcell (c, .inl u)) 0 = 3 := by
  unfold Schedule.expect Schedule.amountOf
  rw [duties_bar, Finset.sum_congr rfl fun d _ => amount_eq A B (c, .inl u) 0 d]
  rfl
theorem expect_dma (c : Dev nD) (j : KD) : (sched (F := F) A B).expect (kcell (c, .inr j)) 0 = amt (.inr j) := by
  unfold Schedule.expect Schedule.amountOf
  rw [duties_dma, Finset.sum_singleton, amount_eq]

end Pay

/-! ## Order of waiting -/

/-- The level of a cell: a device waits on a cell only while everything it still owes lies above it. -/
def lvl : CK → ℕ
  | .inl _ => 1
  | .inr (.inl _) => 0
  | .inr (.inr (k, _)) => match k with
    | 1 => 2 | 3 => 3 | 5 => 3 | 7 => 4 | 9 => 4 | _ => 0

def L (g : GSem nD τ sig) : Finset Unit := if g.1.2 = .tc then {()} else ∅
def lv (g : GSem nD τ sig) (_ : Unit) : ℕ := match decode g with | none => 0 | some x => lvl x.2

theorem L_of_ne (g : GSem nD τ sig) (h : g.1.2 ≠ .tc) : L g = ∅ := if_neg h
theorem L_tc (c : Dev nD) (sm : SemLoc sig) : L ((c : Thread nD τ), sm) = {()} := if_pos rfl
theorem lv_kcell (x : Dev nD × CK) (u : Unit) : lv (kcell x) u = lvl x.2 := by unfold lv; rw [decode_kcell]

/-- Everything in the tally lies above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)

theorem above_tally (n : ℕ) (x : Dev nD × CK) (k : ℕ) (h : n < lvl x.2) : Above n (tallyAt (kcell x) () k) := by
  intro g u hg
  rw [tallyAt_apply] at hg
  by_cases h' : g = kcell x ∧ u = ()
  · rw [h'.1, lv_kcell]; exact ⟨rfl, h⟩
  · rw [if_neg h'] at hg; exact absurd hg (Nat.lt_irrefl 0)

theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

theorem above_sum {n : ℕ} {I : Type} (s : Finset I) (O : I → CellTallies nD τ sig Unit) (h : ∀ i, Above n (O i)) : Above n (∑ i ∈ s, O i) := by
  classical
  induction s using Finset.induction_on with
  | empty => rw [Finset.sum_empty]; exact above_zero n
  | insert a s ha ih => rw [Finset.sum_insert ha]; exact above_add (h a) ih

theorem Above.mono {m n : ℕ} {O : CellTallies nD τ sig Unit} (h : Above n O) (hmn : m ≤ n) : Above m O :=
  fun g u hg => ⟨(h g u hg).1, lt_of_le_of_lt hmn (h g u hg).2⟩

theorem mayWait_of_above (c : Dev nD) (sm : SemLoc sig) (n : ℕ) (hsm : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem mayWait_cell (c : Dev nD) (k : CK) (O : CellTallies nD τ sig Unit) (hO : Above (lvl k) O) :
    (levAts L lv : sProp 𝕄) ⊢ MayWait (c : Thread nD τ) (csem k) () O :=
  mayWait_of_above c (csem k) (lvl k) (le_of_eq (lv_kcell (c, k) ())) O hO

/-! ## Whom a device pays, and what it owes -/

/-- The neighbour that family `k` of transfers goes to (a family of send semaphores is the device's own). -/
def kp : Fin 10 → Dev nD → Dev nD
  | 1 => xp | 3 => yn | 7 => yn | 5 => zn | 9 => zn | _ => id

/-- The neighbour a contribution goes to, -/
def peer : TK → Dev nD → Dev nD
  | .inl 0 => xp | .inl 1 => yn | .inl 2 => zn
  | .inr (.inl _) => id
  | .inr (.inr (k, _)) => kp k
/-- the cell it goes to, -/
def cellOf' : TK → CK
  | .inl _ => .inl ()
  | .inr j => .inr j
/-- which of that cell's contributions it is, -/
def dutyOf : TK → Fin 3
  | .inl i => i
  | .inr _ => 0

theorem kp_kp : ∀ (k : Fin 10) (c : Dev nD), kp k (kp k c) = c := by decide
theorem peer_peer (j : TK) (c : Dev nD) : peer j (peer j c) = c := by
  rcases j with i | i | ⟨k, r⟩
  · revert i c; decide
  · rfl
  · exact kp_kp k c

/-- What the transfer of chunk `r` in family `k` owes to the neighbour. -/
def oSend (c : Dev nD) (k : Fin 10) (r : Fin 8) : CellTallies nD τ sig Unit :=
  tallyAt (kcell (kp k c, .inr (.inr (k, r)))) () (amt (.inr (.inr (k, r))))
/-- What a signal owes. -/
def oBar (c : Dev nD) (i : Fin 3) : CellTallies nD τ sig Unit := tallyAt (kcell (peer (.inl i) c, .inl ())) () 1

/-- What the chunks from `n` on owe. -/
def tail (g : Fin 8 → CellTallies nD τ sig Unit) (n : ℕ) : CellTallies nD τ sig Unit := ∑ s ∈ Finset.univ.filter (fun s : Fin 8 => n ≤ s.val), g s

theorem tail_step (g : Fin 8 → CellTallies nD τ sig Unit) (r : Fin 8) : tail g r.val = tail g (r.val + 1) + g r := by
  unfold tail
  have h : (Finset.univ.filter fun s : Fin 8 => r.val ≤ s.val) = insert r (Finset.univ.filter fun s : Fin 8 => r.val + 1 ≤ s.val) := by
    ext s
    simp only [Finset.mem_filter, Finset.mem_univ, true_and, Finset.mem_insert, Fin.ext_iff]
    omega
  rw [h, Finset.sum_insert (by simp), add_comm]

theorem tail_end (g : Fin 8 → CellTallies nD τ sig Unit) : tail g 8 = 0 := by
  unfold tail
  rw [Finset.filter_false_of_mem fun s _ => by have := s.isLt; omega, Finset.sum_empty]

theorem tail_zero (g : Fin 8 → CellTallies nD τ sig Unit) : tail g 0 = ∑ s, g s := by
  unfold tail
  rw [Finset.filter_true_of_mem fun s _ => Nat.zero_le _]

/-- What the forwarded halves owe from chunk `n` on, -/
def oF (c : Dev nD) (n : ℕ) : CellTallies nD τ sig Unit := tail (fun r => oSend c 7 r + oSend c 9 r) n
/-- with the sums, -/
def oYZ (c : Dev nD) (n : ℕ) : CellTallies nD τ sig Unit := oF c 0 + tail (fun r => oSend c 5 r + oSend c 3 r) n
/-- with the first exchange, -/
def oX (c : Dev nD) (n : ℕ) : CellTallies nD τ sig Unit := oYZ c 0 + tail (oSend c 1) n
/-- with the signals: what a device owes at the start. -/
def O₀ (c : Dev nD) : CellTallies nD τ sig Unit := oX c 0 + oBar c 2 + oBar c 1 + oBar c 0

theorem above_send (n : ℕ) (c : Dev nD) (k : Fin 10) (r : Fin 8) (h : n < lvl (.inr (.inr (k, 0)))) : Above n (oSend c k r) := above_tally n _ _ h
theorem above_bar (c : Dev nD) (i : Fin 3) : Above 0 (oBar c i) := above_tally 0 _ _ Nat.one_pos
theorem above_F (c : Dev nD) (n : ℕ) : Above 3 (oF c n) :=
  above_sum _ _ fun r => above_add (above_send 3 c 7 r (by decide)) (above_send 3 c 9 r (by decide))
theorem above_YZ (c : Dev nD) (n : ℕ) : Above 2 (oYZ c n) :=
  above_add ((above_F c 0).mono (by decide)) (above_sum _ _ fun r => above_add (above_send 2 c 5 r (by decide)) (above_send 2 c 3 r (by decide)))
theorem above_X (c : Dev nD) (n : ℕ) : Above 1 (oX c n) :=
  above_add ((above_YZ c 0).mono (by decide)) (above_sum _ _ fun r => above_send 1 c 1 r (by decide))
theorem above_O₀ (c : Dev nD) : Above 0 (O₀ c) :=
  above_add (above_add (above_add ((above_X c 0).mono (by decide)) (above_bar c 2)) (above_bar c 1)) (above_bar c 0)

/-- What all devices together owe to a cell, contribution by contribution: each is owed by exactly one device. -/
theorem sum_tally (j : TK) (n : ℕ) (c : Dev nD) (k : CK) (u : Unit) :
    ∑ d : Dev nD, tallyAt (kcell (peer j d, cellOf' j)) () n (kcell (c, k)) u = if cellOf' j = k then n else 0 := by
  by_cases h : cellOf' j = k
  · rw [if_pos h, Finset.sum_eq_single (peer j c)]
    · rw [tallyAt_apply, if_pos ⟨by rw [peer_peer, h], rfl⟩]
    · intro d _ hd
      rw [tallyAt_apply, if_neg]
      rintro ⟨h1, -⟩
      have h2 := congrArg Prod.fst (kcell_inj h1)
      exact hd (by rw [show c = peer j d from h2, peer_peer])
    · intro h'; exact absurd (Finset.mem_univ _) h'
  · rw [if_neg h]
    refine Finset.sum_eq_zero fun d _ => ?_
    rw [tallyAt_apply, if_neg]
    rintro ⟨h1, -⟩
    exact h (congrArg Prod.snd (kcell_inj h1)).symm

/-- What all devices together owe to cell `k` of a device. -/
def credAmt : CK → ℕ
  | .inl _ => 3
  | .inr (.inl _) => 0
  | .inr (.inr (k, r)) => if k.val % 2 = 1 then amt (.inr (.inr (k, r))) else 0

theorem sum_send (k : Fin 10) (c : Dev nD) (a : CK) (u : Unit) :
    ∑ d : Dev nD, (∑ r : Fin 8, oSend d k r) (kcell (c, a)) u
      = match a with
        | .inr (.inr (k', r)) => if k = k' then amt (.inr (.inr (k, r))) else 0
        | _ => 0 := by
  simp only [Finset.sum_apply, Finsupp.finset_sum_apply]
  have e (r : Fin 8) : ∑ d : Dev nD, oSend d k r (kcell (c, a)) u = if (.inr (.inr (k, r)) : CK) = a then amt (.inr (.inr (k, r))) else 0 :=
    sum_tally (.inr (.inr (k, r))) (amt (.inr (.inr (k, r)))) c a u
  rw [Finset.sum_comm]
  simp only [e]
  rcases a with a | a | ⟨k', r⟩ <;> simp only [cellOf', Sum.inr.injEq, Prod.mk.injEq, reduceCtorEq, if_false, Finset.sum_const_zero]
  by_cases h : k = k'
  · simp only [h, true_and, if_true]
    rw [Finset.sum_ite_eq' Finset.univ r fun r => amt (.inr (.inr (k', r))), if_pos (Finset.mem_univ _)]
  · simp only [h, false_and, if_false, Finset.sum_const_zero]

theorem sum_owed (c : Dev nD) (a : CK) (u : Unit) : ∑ d : Dev nD, O₀ d (kcell (c, a)) u = credAmt a := by
  have h (d : Dev nD) : O₀ d (kcell (c, a)) u = (∑ r : Fin 8, oSend d 7 r) (kcell (c, a)) u + (∑ r : Fin 8, oSend d 9 r) (kcell (c, a)) u
      + (∑ r : Fin 8, oSend d 5 r) (kcell (c, a)) u + (∑ r : Fin 8, oSend d 3 r) (kcell (c, a)) u + (∑ r : Fin 8, oSend d 1 r) (kcell (c, a)) u
      + oBar d 2 (kcell (c, a)) u + oBar d 1 (kcell (c, a)) u + oBar d 0 (kcell (c, a)) u := by
    unfold O₀ oX oYZ oF
    simp only [tail_zero, Finset.sum_add_distrib, Pi.add_apply, Finsupp.add_apply]
    omega
  simp only [h, Finset.sum_add_distrib, sum_send]
  have b (i : Fin 3) : ∑ d : Dev nD, oBar d i (kcell (c, a)) u = if (.inl () : CK) = a then 1 else 0 := sum_tally (.inl i) 1 c a u
  rw [b, b, b]
  rcases a with a | a | ⟨k, r⟩
  · rfl
  · rfl
  · simp only [credAmt, reduceCtorEq, if_false]
    fin_cases k <;> simp

end Cert.KernelIdeal.Mesh

end
-- ==== Proof.Rules.lean ====
/- The four kinds of synchronisation step of the kernel, each proved once at a symbolic device and semaphore, and
   the rule for a phase of eight chunks. -/
module

public import proofs.«01_k».proof.Proof.Sched

@[expose] public section

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- `p`, run on device `c`, ends in `Q`. -/
abbrev runs (c : Dev nD) (p : PP F) (Q : PUnit → sProp 𝕄) : sProp 𝕄 :=
  wp frame (wpE (defs₀ (F := F)) 𝒱₀ (c : Thread nD τ) none) Set.univ p Q

/-- What device `c` still owes, whatever it has waited for. -/
def due (c : Dev nD) (O : CellTallies nD τ sig Unit) : sProp 𝕄 := iprop(∃ W, owes (c : Thread nD τ) O W)

section
variable (A B : Dev nD → Vec F S1024x4096 .f32) (K : Dev nD × CK → ℕ)

/-- The levels of all cells. -/
def levels : sProp 𝕄 := levAts L lv
instance levels_persistent : BI.Persistent (levels (F := F)) := by unfold levels; infer_instance

/-- What every device knows throughout: the agreement at every cell, that every cell is in its round, and the levels. -/
def known : sProp 𝕄 :=
  iprop((bigSep Finset.univ fun x : Dev nD × CK => cellInv ER (sched A B) (K x) (kcell x))
    ∗ (bigSep Finset.univ fun x : Dev nD × CK => reached ER (kcell x) 0) ∗ levels)

instance known_persistent : BI.Persistent (known (F := F) A B K) := by unfold known; infer_instance

theorem known_inv (x : Dev nD × CK) : known A B K ⊢ cellInv ER (sched (F := F) A B) (K x) (kcell x) := by
  unfold known
  iintro ⟨H, -, -⟩
  iapply (show (bigSep Finset.univ fun x : Dev nD × CK => (cellInv ER (sched A B) (K x) (kcell x) : sProp 𝕄)) ⊢ cellInv ER (sched A B) (K x) (kcell x)
    from bigSep_elim (Finset.mem_univ x))
  iexact H

theorem known_reached (x : Dev nD × CK) : known (F := F) A B K ⊢ reached ER (kcell x) 0 := by
  unfold known
  iintro ⟨-, H, -⟩
  iapply (show (bigSep Finset.univ fun x : Dev nD × CK => (reached ER (kcell x) 0 : sProp 𝕄)) ⊢ reached ER (kcell x) 0
    from bigSep_elim (Finset.mem_univ x))
  iexact H

theorem known_lev : known (F := F) A B K ⊢ levels := by
  unfold known
  iintro ⟨-, -, H⟩
  iexact H

theorem known_mayWait (c : Dev nD) (k : CK) (O : CellTallies nD τ sig Unit) (hO : Above (lvl k) O) :
    known (F := F) A B K ⊢ MayWait (c : Thread nD τ) (csem k) () O := by
  unfold known levels
  iintro ⟨-, -, H⟩
  iapply (mayWait_cell c k O hO)
  iexact H

/-- The device's place at its cell, before the round. -/
abbrev seat (c : Dev nD) (k : CK) : sProp 𝕄 := atPos ER (kcell (c, k)) 0 ∅ 0
/-- The right to make contribution `d` to a cell. -/
abbrev ticket (c : Dev nD) (k : CK) (d : Fin 3) : sProp 𝕄 := dutyTok ER (kcell (c, k)) 0 d
/-- The claim on a transfer's units at the device's cell. -/
abbrev claimOn (c : Dev nD) (j : KD) : sProp 𝕄 := cred (tallyAt (kcell (c, .inr j)) () (amt (.inr j)))
/-- The cell back at zero. -/
abbrev closed (c : Dev nD) (k : CK) : sProp 𝕄 := semVal (kcell (c, k)) 0

theorem mem_duty (c : Dev nD) (j : KD) : (0 : Fin 3) ∈ (sched (F := F) A B).duties (kcell (c, .inr j)) 0 := by
  rw [duties_dma]; exact Finset.mem_singleton_self _
theorem mem_duty_bar (c : Dev nD) (d : Fin 3) : d ∈ (sched (F := F) A B).duties (kcell (c, .inl ())) 0 := by
  rw [duties_bar]; exact Finset.mem_univ _

/-- A wait on a transfer's semaphore hands over what the transfer carries, and the cell is done. -/
theorem wait_step (c : Dev nD) (j : KD) {sp sp' : Space} {s s' : Shape} {e e' : EltTy} (src : Memref sig .tc sp' s' e') (dst : Memref sig .tc sp s e)
    (hs : src.view.WordExact) (hd : dst.view.WordExact) (hN : dst.view.dmaCredit = amt (.inr j)) (O : CellTallies nD τ sig Unit) (hO : Above (lvl (.inr j)) O)
    (k : PUnit → PP F) (Q : PUnit → sProp 𝕄) :
    iprop(known A B K ∗ seat c (.inr j) ∗ claimOn c j ∗ due c O)
      ⊢ iprop((due c O ∗ closed c (.inr j) ∗ pay A B c (.inr j) 0 -∗ runs c (k ⟨⟩) Q)
          -∗ runs c (.op (.waitDma2 (dsem j) src dst hs hd) k) Q) := by
  iintro ⟨#HK, Hat, Hcr, Ho⟩ Hk
  unfold due
  icases Ho with ⟨%W, Ho⟩
  ihave Hcr := (Entails.of_eq (show claimOn (F := F) c j = cred (tallyAt (kcell (c, .inr j)) () dst.view.dmaCredit) by rw [hN])) $$ Hcr
  iapply (Rounds.wp_wait_rest_token 𝒱₀ ER (sched A B) (c : Thread nD τ) none (κ := K (c, .inr j))
      (wpE_waitDma2_eq 𝒱₀ (c : Thread nD τ) none Set.univ) (Set.mem_univ _) () (O := O) (W := W) (R := 0) (m := 0) (T := ∅)
      (by rw [Nat.zero_add, hN]; exact (expect_dma A B c j).symm)) $$ [Hat Hcr Ho]
  · isplitr; · iapply (known_inv A B K (c, .inr j)); iexact HK
    isplitl [Hcr]; · iexact Hcr
    isplitl [Ho]; · iexact Ho
    isplitr
    · iapply (known_mayWait A B K c (.inr j) O hO); iexact HK
    iexact Hat
  iintro ⟨Ho, Hat, -, Hpay⟩
  imod (Rounds.cell_close ER (sched A B) (Set.mem_univ (K (c, .inr j))) (fun h => h) (R := 0 + 1) (duties_later A B (kcell (c, .inr j)))) $$ [Hat] with Hz
  · isplitr; · iapply (known_inv A B K (c, .inr j)); iexact HK
    iexact Hat
  iapply Hk
  isplitl [Ho]; · iexists _; iexact Ho
  isplitl [Hz]; · iexact Hz
  have e : bigSep ((sched (F := F) A B).duties (kcell (c, .inr j)) 0 \ ∅) (fun d => (sched A B).payload (kcell (c, .inr j)) 0 d) = pay A B c (.inr j) 0 := by
    rw [Finset.sdiff_empty, duties_dma, bigSep_singleton, payload_eq]
  iapply (Entails.of_eq e); iexact Hpay

/-- A transfer to another device: the source goes to the sender's cell, the filled destination to the receiver's. -/
theorem send_step (c n n' : Dev nD) (hn : n' = n) (jS jR : KD) {sp sp' : Space} {s : Shape} {e : EltTy}
    (src : Memref sig .tc sp s e) (dst : Memref sig .tc sp' s e)
    {hsc : (dst : Memref sig (Dev.tc n' : Thread nD τ).2.kind sp' s e).view.ref.isScScratch = false} {hs : src.view.WordExact} {hd : dst.view.WordExact}
    {ht : DmaTarget.Typed sp (.dma (dsem jR)) (.remote (Dev.tc n' : Thread nD τ) dst (.dma (dsem jS)) hsc)}
    (hN : dst.view.dmaCredit = amt (.inr jR)) (hN' : amt (.inr jS) = amt (.inr jR))
    (q : PosShare TreeShare) (fs : Buf (Elt F) (src.view.loc (c : Thread nD τ))) (O : CellTallies nD τ sig Unit)
    (hS : vpts src.view c q fs ⊢ pay A B c (.inr jS) 0)
    (hR : ∀ fd, vpts dst.view n fullShare (dst.view.write (Elt F) fd (src.view.read (Elt F) fs) Finset.univ) ⊢ pay A B n (.inr jR) 0)
    (k : PUnit → PP F) (Q : PUnit → sProp 𝕄) :
    iprop(known A B K ∗ vpts src.view c q fs ∗ vany dst.view n ∗ ticket c (.inr jS) 0 ∗ ticket n (.inr jR) 0
        ∗ due c (O + tallyAt (kcell (n, .inr jR)) () (amt (.inr jR))))
      ⊢ iprop((claimOn c jS ∗ due c O -∗ runs c (k ⟨⟩) Q)
          -∗ runs c (.op (.enqueueDma src (.remote (Dev.tc n' : Thread nD τ) dst (.dma (dsem jS)) hsc) (.dma (dsem jR)) hs hd ht) k) Q) := by
  subst hn
  iintro ⟨#HK, Hsrc, ⟨%fd, Hdst⟩, HtS, HtR, Ho⟩ Hk
  unfold due
  icases Ho with ⟨%W, Ho⟩
  iapply (Rounds.wp_send_pointsTo 𝒱₀ ER (sched A B) (c : Thread nD τ) none (κ₁ := K (c, .inr jS)) (κ₂ := K (n', .inr jR))
      (r₁ := 0) (r₂ := 0) (d₁ := 0) (d₂ := 0) (fd := fd)
      (mem_duty A B c jS)
      (mem_duty A B n' jR)
      () () (amt (.inr jR)) hN ((amount_eq A B (c, .inr jS) 0 0).trans hN') (amount_eq A B (n', .inr jR) 0 0) O rfl (W := W)
      (hS.trans (Entails.of_eq (payload_eq A B (c, .inr jS) 0 0).symm))
      ((hR fd).trans (Entails.of_eq (payload_eq A B (n', .inr jR) 0 0).symm))) $$ [Hsrc Hdst HtS HtR Ho]
  · isplitr; · iapply (known_inv A B K (c, .inr jS)); iexact HK
    isplitr; · iapply (known_inv A B K (n', .inr jR)); iexact HK
    isplitl [Hsrc]; · iexact Hsrc
    isplitl [Hdst]; · iexact Hdst
    isplitl [Ho]; · iexact Ho
    isplitl [HtS]; · iexact HtS
    isplitr; · iapply (known_reached A B K (c, .inr jS)); iexact HK
    isplitl [HtR]; · iexact HtR
    iapply (known_reached A B K (n', .inr jR)); iexact HK
  iintro ⟨Hc, Ho⟩
  iapply Hk
  isplitl [Hc]
  · iapply (Entails.of_eq (show cred (tallyAt (kcell (c, .inr jS)) () (amt (.inr jR))) = claimOn (F := F) c jS by rw [← hN'])); iexact Hc
  iexists _; iexact Ho

/-- A copy on the device itself hands source and filled destination to its cell. -/
theorem copy_step (c : Dev nD) (j : KD) {sp sp' : Space} {s : Shape} {e : EltTy}
    (src : Memref sig .tc sp s e) (dst : Memref sig .tc sp' s e) {hs : src.view.WordExact} {hd : dst.view.WordExact}
    {ht : DmaTarget.Typed (nD := nD) (p := (c : Thread nD τ).2) sp (.dma (dsem j)) (.here dst)} (hN : dst.view.dmaCredit = amt (.inr j))
    (fs : Buf (Elt F) (src.view.loc (c : Thread nD τ)))
    (hP : ∀ fd, iprop(vpts dst.view c fullShare (dst.view.write (Elt F) fd (src.view.read (Elt F) fs) Finset.univ) ∗ vpts src.view c fullShare fs) ⊢ pay A B c (.inr j) 0)
    (k : PUnit → PP F) (Q : PUnit → sProp 𝕄) :
    iprop(known A B K ∗ vpts src.view c fullShare fs ∗ vany dst.view c ∗ ticket c (.inr j) 0)
      ⊢ iprop((claimOn c j -∗ runs c (k ⟨⟩) Q)
          -∗ runs c (.op (.enqueueDma src (.here dst) (.dma (dsem j)) hs hd ht) k) Q) := by
  iintro ⟨#HK, Hsrc, ⟨%fd, Hdst⟩, Ht⟩ Hk
  iapply (Rounds.wp_copy_pointsTo 𝒱₀ ER (sched A B) (c : Thread nD τ) none (κ := K (c, .inr j)) (r := 0) (d := 0) (fd := fd)
      (mem_duty A B c j)
      () (amt (.inr j)) hN (amount_eq A B (c, .inr j) 0 0)
      ((hP fd).trans (Entails.of_eq (payload_eq A B (c, .inr j) 0 0).symm))) $$ [Hsrc Hdst Ht]
  · isplitr; · iapply (known_inv A B K (c, .inr j)); iexact HK
    isplitl [Hsrc]; · iexact Hsrc
    isplitl [Hdst]; · iexact Hdst
    isplitl [Ht]; · iexact Ht
    iapply (known_reached A B K (c, .inr j)); iexact HK
  iexact Hk

/-- A signal to a neighbour's barrier hands over the buffers the neighbour will write. -/
theorem signal_step (c n n' : Dev nD) (hn : n' = n) (d : Fin 3) (O : CellTallies nD τ sig Unit) (k : PUnit → PP F) (Q : PUnit → sProp 𝕄) :
    iprop(known A B K ∗ barPay (F := F) n d ∗ ticket n (.inl ()) d ∗ due c (O + tallyAt (kcell (n, .inl ())) () 1))
      ⊢ iprop((due c O -∗ runs c (k ⟨⟩) Q)
          -∗ runs c (.op (.semSignal (Dev.tc n' : Thread nD τ) barSem (1#32 : BitVec 32).toInt) k) Q) := by
  subst hn
  iintro ⟨#HK, Hp, Ht, Ho⟩ Hk
  unfold due
  icases Ho with ⟨%W, Ho⟩
  iapply (Rounds.wp_signal 𝒱₀ ER (sched A B) (c : Thread nD τ) none (dst := (n' : Thread nD τ)) (κ := K (n', .inl ()))
      (d := d) (mem_duty_bar A B n' d)
      ((amount_eq A B (n', .inl ()) 0 d).trans (show (1 : ℕ) = _ by decide)) () O rfl (W := W)) $$ [Hp Ht Ho]
  · isplitr; · iapply (known_inv A B K (n', .inl ())); iexact HK
    isplitl [Ho]; · iexact Ho
    isplitl [Ht]; · iexact Ht
    isplitl [Hp]
    · iapply (show barPay n' d ⊢ (sched A B).payload ((n' : Thread nD τ), .reg barSem) 0 d from Entails.of_eq (payload_eq A B (n', .inl ()) 0 d).symm)
      iexact Hp
    iapply (known_reached A B K (n', .inl ())); iexact HK
  iintro Ho
  iapply Hk
  iexists _; iexact Ho

/-- The wait on the own barrier hands over what all three neighbours' signals carry. -/
theorem barrier_step (c : Dev nD) (O : CellTallies nD τ sig Unit) (hO : Above 1 O) (k : PUnit → PP F) (Q : PUnit → sProp 𝕄) :
    iprop(known A B K ∗ seat c (.inl ()) ∗ cred (tallyAt (kcell (c, .inl ())) () 3) ∗ due c O)
      ⊢ iprop((due c O ∗ closed c (.inl ()) ∗ barPay (F := F) c 0 ∗ barPay (F := F) c 1 ∗ barPay (F := F) c 2 -∗ runs c (k ⟨⟩) Q)
          -∗ runs c (.op (.semWait barSem (3#32 : BitVec 32).toInt) k) Q) := by
  iintro ⟨#HK, Hat, Hcr, Ho⟩ Hk
  unfold due
  icases Ho with ⟨%W, Ho⟩
  iapply (Rounds.wp_wait_rest_token 𝒱₀ ER (sched A B) (c : Thread nD τ) none (κ := K (c, .inl ()))
      (wpE_semWait_eq 𝒱₀ (c : Thread nD τ) none Set.univ) (Set.mem_univ _) () (O := O) (W := W) (R := 0) (m := 0) (T := ∅)
      ((show 0 + (3#32 : BitVec 32).toNat = 3 from rfl).trans (expect_bar A B c ()).symm)) $$ [Hat Hcr Ho]
  · isplitr; · iapply (known_inv A B K (c, .inl ())); iexact HK
    isplitl [Hcr]; · iexact Hcr
    isplitl [Ho]; · iexact Ho
    isplitr
    · iapply (known_mayWait A B K c (.inl ()) O hO); iexact HK
    iexact Hat
  iintro ⟨Ho, Hat, -, Hpay⟩
  imod (Rounds.cell_close ER (sched A B) (Set.mem_univ (K (c, .inl ()))) (fun h => h) (R := 0 + 1) (duties_later A B (kcell (c, .inl ())))) $$ [Hat] with Hz
  · isplitr; · iapply (known_inv A B K (c, .inl ())); iexact HK
    iexact Hat
  iapply Hk
  isplitl [Ho]; · iexists _; iexact Ho
  isplitl [Hz]; · iexact Hz
  have e : bigSep ((sched (F := F) A B).duties (kcell (c, .inl ())) 0 \ ∅) (fun d => (sched A B).payload (kcell (c, .inl ())) 0 d)
      = iprop(barPay c 0 ∗ barPay c 1 ∗ barPay c 2) := by
    rw [Finset.sdiff_empty, duties_bar, bigSep_univ_eq_bigSepL [0, 1, 2] (by decide) (by decide), bigSepL_cons_cons, bigSepL_cons_cons, bigSepL_singleton,
      payload_eq, payload_eq, payload_eq]
    rfl
  iapply (Entails.of_eq e); iexact Hpay

/-- A phase: if one chunk's step turns `S r` into `S' r` and what is owed from chunk `r` on into what is owed from the
    next, the eight steps do so for all chunks. -/
theorem phase (c : Dev nD) (f : Fin 8 → PP F → PP F) (S S' : Fin 8 → sProp 𝕄) (O : ℕ → CellTallies nD τ sig Unit)
    (step : ∀ (r : Fin 8) (k : PP F) (Q : PUnit → sProp 𝕄), iprop(known A B K ∗ S r ∗ due c (O r.val))
      ⊢ iprop((S' r ∗ due c (O (r.val + 1)) -∗ runs c k Q) -∗ runs c (f r k) Q))
    (k : PP F) (Q : PUnit → sProp 𝕄) :
    iprop(known A B K ∗ bigSep Finset.univ S ∗ due c (O 0))
      ⊢ iprop((bigSep Finset.univ S' ∗ due c (O 8) -∗ runs c k Q) -∗ runs c (chunks f k) Q) := by
  have e (T : Fin 8 → sProp 𝕄) : bigSep Finset.univ T = iprop(T 0 ∗ T 1 ∗ T 2 ∗ T 3 ∗ T 4 ∗ T 5 ∗ T 6 ∗ T 7) :=
    bigSep_univ_eq_bigSepL [0, 1, 2, 3, 4, 5, 6, 7] (by decide) (by decide) T
  rw [e S, e S']
  unfold chunks
  iintro ⟨#HK, ⟨H0, H1, H2, H3, H4, H5, H6, H7⟩, Ho⟩ Hk
  iapply (step 0 _ Q) $$ [H0 Ho]
  · isplitr; · iexact HK
    isplitl [H0]; · iexact H0
    iexact Ho
  iintro ⟨H0, Ho⟩
  iapply (step 1 _ Q) $$ [H1 Ho]
  · isplitr; · iexact HK
    isplitl [H1]; · iexact H1
    iexact Ho
  iintro ⟨H1, Ho⟩
  iapply (step 2 _ Q) $$ [H2 Ho]
  · isplitr; · iexact HK
    isplitl [H2]; · iexact H2
    iexact Ho
  iintro ⟨H2, Ho⟩
  iapply (step 3 _ Q) $$ [H3 Ho]
  · isplitr; · iexact HK
    isplitl [H3]; · iexact H3
    iexact Ho
  iintro ⟨H3, Ho⟩
  iapply (step 4 _ Q) $$ [H4 Ho]
  · isplitr; · iexact HK
    isplitl [H4]; · iexact H4
    iexact Ho
  iintro ⟨H4, Ho⟩
  iapply (step 5 _ Q) $$ [H5 Ho]
  · isplitr; · iexact HK
    isplitl [H5]; · iexact H5
    iexact Ho
  iintro ⟨H5, Ho⟩
  iapply (step 6 _ Q) $$ [H6 Ho]
  · isplitr; · iexact HK
    isplitl [H6]; · iexact H6
    iexact Ho
  iintro ⟨H6, Ho⟩
  iapply (step 7 _ Q) $$ [H7 Ho]
  · isplitr; · iexact HK
    isplitl [H7]; · iexact H7
    iexact Ho
  iintro ⟨H7, Ho⟩
  iapply Hk
  isplitr [Ho]
  · isplitl [H0]; · iexact H0
    isplitl [H1]; · iexact H1
    isplitl [H2]; · iexact H2
    isplitl [H3]; · iexact H3
    isplitl [H4]; · iexact H4
    isplitl [H5]; · iexact H5
    isplitl [H6] <;> iassumption
  iexact Ho

end

end Cert.KernelIdeal.Mesh

end
-- ==== Proof.Exchange.lean ====
/- The first exchange and the sums: one chunk's step of each, at a symbolic device and chunk. -/
module

public import proofs.«01_k».proof.Proof.Rules
public import Idealize.ShloMosaic.Lib.Pipeline.Value

@[expose] public section

set_option maxHeartbeats 400000

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A B : Dev nD → Vec F S1024x4096 .f32) (K : Dev nD × CK → ℕ)

/-! ## Two facts used throughout -/

/-- An unmasked write through a view is, under the view, any contents that the written values are read from. -/
theorem vpts_lands {sp : Space} {s : Shape} {e : EltTy} (v : View sig .tc sp s e) (n : Dev nD) (g : Buf (Elt F) (v.loc (n : Thread nD τ)))
    (w : Vec F s e) (h : ∀ p, w p = v.read (Elt F) g p) (f : Buf (Elt F) (v.loc (n : Thread nD τ))) :
    vpts v n fullShare (v.write (Elt F) f w Finset.univ) ⊢ vpts (F := F) v n fullShare g :=
  Entails.of_eq (pointsTo_congr (write_lands v f g w h))

/-- Rows `32 r …` of the quarter of the result filled `j`-th, at unknown contents, -/
def oPre (c : Dev nD) (j : Fin 4) (r : Fin 8) : sProp 𝕄 :=
  iprop(∃ f : Buf (Elt F) (outM.view.loc (c : Thread nD τ)), outM.view.loc (c : Thread nD τ) ↦[oSet c (j, r)]{fullShare} f)
/-- and filled. -/
def oPost (c : Dev nD) (j : Fin 4) (r : Fin 8) : sProp 𝕄 :=
  outM.view.loc (c : Thread nD τ) ↦[oSet c (j, r)]{fullShare} (outC A B c : Buf (Elt F) (outM.view.loc (c : Thread nD τ)))

/-- Values read from contents of the result under a rectangle are read from them through the rectangle. -/
theorem out_read (r : Rect S1024x1024) (g : Vec F S1024x1024 .f32) (w : Vec F r.shape .f32) (h : ∀ p, w p = g (r.idx p)) :
    ∀ p, w p = (outM.access r).read (Elt F) g p := h

/-- Storing a quarter's rows `32 r …` into the result fills that block. -/
theorem fill_step (c : Dev nD) (j : Fin 4) (r : Fin 8) {off : Fin 2 → ℕ} (h : off = ![256 * own (src c j) + 32 * r.val, 0])
    (inb : ∀ a, off a + S32x1024.size a ≤ S1024x1024.size a) {hl hx hm} (w : Vec F S32x1024 .f32) (hw : ∀ p, w p = quarterC A B c j ((rows r).idx p))
    (k : PP F) (Q : PUnit → sProp 𝕄) :
    oPre (F := F) c j r ⊢ iprop((oPost A B c j r -∗ runs c k Q)
      -∗ runs c (.op (.load outM (Rect.unit (s := S1024x1024) off S32x1024.size inb).toLoadRect hl) fun _ =>
          .op (.store outM (Rect.unit (s := S1024x1024) off S32x1024.size inb) w Finset.univ hx hm) fun _ => k) Q) := by
  have hset : (outM.access (Rect.unit (s := S1024x1024) off S32x1024.size inb)).set = oSet c (j, r) := by
    rw [← oSet_eq c j r h inb]
    exact View.set_slice_whole _ _
  unfold oPre oPost
  iintro ⟨%f, H⟩ Hk
  iapply (wp_load_rect 𝒱₀ (c : Thread nD τ) none Set.univ (m := outM) (r := Rect.unit (s := S1024x1024) off S32x1024.size inb)
    (S := oSet c (j, r)) (f := f) (q := fullShare) (le_of_eq hset)) $$ H
  iintro H
  iapply (wp_store 𝒱₀ (c : Thread nD τ) none Set.univ (m := outM) (r := Rect.unit (s := S1024x1024) off S32x1024.size inb)
    (S := oSet c (j, r)) (f := f) (le_of_eq hset)) $$ H
  iintro H
  iapply Hk
  have hv := out_read (Rect.unit (s := S1024x1024) off S32x1024.size inb) (outC A B c) w (fun p => (hw p).trans (outC_at c j r h inb A B p).symm)
  generalize outC A B c = g at hv ⊢
  rw [← hset]
  iapply (vpts_lands (outM.access (Rect.unit (s := S1024x1024) off S32x1024.size inb)) c g w hv f)
  iexact H

theorem due_congr (c : Dev nD) {O O' : CellTallies nD τ sig Unit} (h : O = O') : due (F := F) c O ⊢ due c O' := Entails.of_eq (by rw [h])

/-! ## The first exchange -/

def xsendPre (c : Dev nD) (r : Fin 8) : sProp 𝕄 :=
  iprop(vpts (ch mbM r).view c fullShare (mbC A B c) ∗ vany (ch xcM r).view (xp c)
    ∗ ticket c (.inr (.inr (0, r))) 0 ∗ ticket (xp c) (.inr (.inr (1, r))) 0)

/-- Chunk `r` of the own product goes to the `x` neighbour. -/
theorem xsend_step (c : Dev nD) (r : Fin 8) (k : PP F) (Q : PUnit → sProp 𝕄) :
    iprop(known A B K ∗ xsendPre A B c r ∗ due c (oX c r.val))
      ⊢ iprop((claimOn c (.inr (0, r)) ∗ due c (oX c (r.val + 1)) -∗ runs c k Q) -∗ runs c (xsend c r k) Q) := by
  have hO : oX c r.val = oX c (r.val + 1) + tallyAt (kcell (xp c, .inr (.inr (1, r)))) () (amt (.inr (.inr (1, r)))) := by
    unfold oX
    rw [tail_step, add_assoc]
    rfl
  unfold xsendPre xsend
  iintro ⟨#HK, ⟨Hm, Hx, Ht, Ht'⟩, Ho⟩ Hk
  ihave Ho := (due_congr c hO) $$ Ho
  iapply (send_step A B K c (xp c) (xDev c r) (xDev_eq c r) (.inr (0, r)) (.inr (1, r)) (ch mbM r) (ch xcM r) rfl rfl fullShare (mbC A B c)
    (oX c (r.val + 1)) (Entails.refl _)
    (vpts_lands (ch xcM r).view (xp c) (xcC A B (xp c)) _ (fun p => by unfold xcC; rw [xp_xp]; rfl)) (fun _ => k) Q) $$ [Hm Hx Ht Ht' Ho]
  · isplitr; · iexact HK
    isplitl [Hm]; · iexact Hm
    isplitl [Hx]; · iexact Hx
    isplitl [Ht]; · iexact Ht
    isplitl [Ht']; · iexact Ht'
    iexact Ho
  iexact Hk

/-! ## The sums -/

/-- A chunk of the own product, and of what the `x` neighbour sent, as the sum's step reads them. -/
abbrev mineAt (c : Dev nD) (r : Fin 8) : Vec F S32x1024 .f32 := (mineM.access (rows r)).read (Elt F) (mineC A B c)
abbrev xcAt (c : Dev nD) (r : Fin 8) : Vec F S32x1024 .bf16 := (xcM.access (rows r)).read (Elt F) (xcC A B c)

/-- What that step stores is the chunk of the sum, -/
theorem pay3_at (c : Dev nD) (r : Fin 8) (p : S32x1024.Idx) : k0_pay3 (mineAt A B c r) (xcAt A B c r) p = quarterC A B c 0 ((rows r).idx p) := id rfl
/-- and of the sum rounded. -/
theorem pay4_at (c : Dev nD) (r : Fin 8) (p : S32x1024.Idx) : k0_pay4 (mineAt A B c r) (xcAt A B c r) p = (ch ownM r).view.read (Elt F) (ownC A B c) p := by
  unfold k0_pay4
  rw [shapeCast_self]
  exact congrArg (FloatOps.truncf .bf16 bitsLt_bf16_f32) (pay3_at A B c r p)

def reducePre (c : Dev nD) (r : Fin 8) : sProp 𝕄 :=
  iprop(seat c (.inr (.inr (1, r))) ∗ claimOn c (.inr (1, r)) ∗ vpts (mineM.access (rows r)) c fullShare (mineC A B c)
    ∗ oPre c 0 r ∗ vany (ch ownM r).view c
    ∗ vany (ch yM r).view (yn c) ∗ ticket c (.inr (.inr (2, r))) 0 ∗ ticket (yn c) (.inr (.inr (3, r))) 0
    ∗ vany (ch zM r).view (zn c) ∗ ticket c (.inr (.inr (4, r))) 0 ∗ ticket (zn c) (.inr (.inr (5, r))) 0)

def reducePost (c : Dev nD) (r : Fin 8) : sProp 𝕄 :=
  iprop(closed c (.inr (.inr (1, r))) ∗ vpts (mineM.access (rows r)) c fullShare (mineC A B c) ∗ vpts (ch xcM r).view c fullShare (xcC A B c)
    ∗ oPost A B c 0 r ∗ claimOn c (.inr (2, r)) ∗ claimOn c (.inr (4, r)))

/-- The sum's chunk `r` fills its rows of the result and goes to the `y` and to the `z` neighbour. -/
theorem reduce_step (c : Dev nD) (r : Fin 8) (k : PP F) (Q : PUnit → sProp 𝕄) :
    iprop(known A B K ∗ reducePre A B c r ∗ due c (oYZ c r.val))
      ⊢ iprop((reducePost A B c r ∗ due c (oYZ c (r.val + 1)) -∗ runs c k Q) -∗ runs c (reduce c r k) Q) := by
  have hO : oYZ c r.val = (oYZ c (r.val + 1) + oSend c 5 r) + tallyAt (kcell (yn c, .inr (.inr (3, r)))) () (amt (.inr (.inr (3, r)))) := by
    unfold oYZ
    rw [tail_step, ← add_assoc, ← add_assoc]
    rfl
  unfold reducePre reducePost reduce
  iintro ⟨#HK, ⟨Hs, Hc, Hm, Hout, Hown, Hy, Hty, Hty', Hz, Htz, Htz'⟩, Ho⟩ Hk
  iapply (wait_step A B K c (.inr (1, r)) (ch mbM r) (ch xcM r) (ww mbM (Memref.isWhole_whole _) r) (ww xcM (Memref.isWhole_whole _) r) rfl
    (oYZ c r.val) (above_YZ c r.val) _ Q) $$ [Hs Hc Ho]
  · isplitr; · iexact HK
    isplitl [Hs]; · iexact Hs
    isplitl [Hc]; · iexact Hc
    iexact Ho
  iintro ⟨Ho, Hcl, Hxc⟩
  ihave Hxc := (show pay A B c (.inr (.inr (1, r))) 0 ⊢ vpts (ch xcM r).view c fullShare (xcC A B c) from Entails.refl _) $$ Hxc
  iapply (wp_load_rect 𝒱₀ (c : Thread nD τ) none Set.univ (m := mineM) (r := rows r) (Finset.Subset.refl _)) $$ Hm
  iintro Hm
  iapply (wp_load_rect 𝒱₀ (c : Thread nD τ) none Set.univ (m := xcM) (r := rows r) (f := xcC A B c) (S := (ch xcM r).view.set) (q := fullShare) (Finset.Subset.refl _)) $$ [Hxc]
  · iexact Hxc
  iintro Hxc
  iapply (fill_step A B c 0 r (off2_eq c r) (k0_off2_inb c r) (k0_pay3 (mineAt A B c r) (xcAt A B c r)) (pay3_at A B c r) _ Q) $$ [Hout]
  · iexact Hout
  iintro Hout
  icases Hown with ⟨%f, Hown⟩
  iapply (wp_load_rect 𝒱₀ (c : Thread nD τ) none Set.univ (m := ownM) (r := rows r) (f := f) (S := (ch ownM r).view.set) (q := fullShare) (Finset.Subset.refl _)) $$ [Hown]
  · iexact Hown
  iintro Hown
  iapply (wp_store 𝒱₀ (c : Thread nD τ) none Set.univ (m := ownM) (r := rows r) (f := f) (S := (ch ownM r).view.set) (Finset.Subset.refl _)) $$ [Hown]
  · iexact Hown
  iintro Hown
  ihave Hown := (vpts_lands (ch ownM r).view c (ownC A B c) (k0_pay4 (mineAt A B c r) (xcAt A B c r)) (pay4_at A B c r) f) $$ [Hown]
  · iexact Hown
  icases (pointsTo_share (PosShare.mem_left_op_right fullShare)).1 $$ Hown with ⟨HownL, HownR⟩
  ihave Ho := (due_congr c hO) $$ Ho
  iapply (send_step A B K c (yn c) (yDev c r) (yDev_eq c r) (.inr (2, r)) (.inr (3, r)) (ch ownM r) (ch yM r) rfl rfl fullShare.left (ownC A B c)
    (oYZ c (r.val + 1) + oSend c 5 r) (Entails.refl _)
    (vpts_lands (ch yM r).view (yn c) (yC A B (yn c)) _ (fun p => by unfold yC; rw [yn_yn]; rfl)) _ Q) $$ [HownL Hy Hty Hty' Ho]
  · isplitr; · iexact HK
    isplitl [HownL]; · iexact HownL
    isplitl [Hy]; · iexact Hy
    isplitl [Hty]; · iexact Hty
    isplitl [Hty']; · iexact Hty'
    iexact Ho
  iintro ⟨Hc2, Ho⟩
  iapply (send_step A B K c (zn c) (zDev c r) (zDev_eq c r) (.inr (4, r)) (.inr (5, r)) (ch ownM r) (ch zM r) rfl rfl fullShare.right (ownC A B c)
    (oYZ c (r.val + 1)) (Entails.refl _)
    (vpts_lands (ch zM r).view (zn c) (zC A B (zn c)) _ (fun p => by unfold zC; rw [zn_zn]; rfl)) _ Q) $$ [HownR Hz Htz Htz' Ho]
  · isplitr; · iexact HK
    isplitl [HownR]; · iexact HownR
    isplitl [Hz]; · iexact Hz
    isplitl [Htz]; · iexact Htz
    isplitl [Htz']; · iexact Htz'
    iexact Ho
  iintro ⟨Hc4, Ho⟩
  iapply Hk
  isplitr [Ho]
  · isplitl [Hcl]; · iexact Hcl
    isplitl [Hm]; · iexact Hm
    isplitl [Hxc]; · iexact Hxc
    isplitl [Hout]; · iexact Hout
    isplitl [Hc2]; · iexact Hc2
    iexact Hc4
  iexact Ho

end

end Cert.KernelIdeal.Mesh

end
-- ==== Proof.Forward.lean ====
/- The forwarded halves, the diagonal quarter and the last waits: one chunk's step of each, at a symbolic device
   and chunk. -/
module

public import proofs.«01_k».proof.Proof.Exchange

@[expose] public section

set_option maxHeartbeats 400000

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A B : Dev nD → Vec F S1024x4096 .f32) (K : Dev nD × CK → ℕ)

/-- A chunk held at some share is its two halves held at it, -/
theorem halves (M : Memref sig .tc .vmem S256x1024 .bf16) (c : Dev nD) (r : Fin 8) (q : PosShare TreeShare) (f : Buf (Elt F) (M.view.loc (c : Thread nD τ))) :
    vpts (F := F) (ch M r).view c q f ⊣⊢ iprop(vpts (chLo M r).view c q f ∗ vpts (chHi M r).view c q f) := by
  have h : (vpts (F := F) (ch M r).view c q f) = (M.view.loc (c : Thread nD τ) ↦[(M.view.slice (rowsLo r)).set ∪ (M.view.slice (rowsHi r)).set]{q} f) := by
    rw [← rows_halves M.view r]
  rw [h]
  exact pointsTo_union (halves_disjoint M.view r)

/-- and held in full it is its two halves held at the left share and the whole chunk at the right one. -/
theorem lend (M : Memref sig .tc .vmem S256x1024 .bf16) (c : Dev nD) (r : Fin 8) (f : Buf (Elt F) (M.view.loc (c : Thread nD τ))) :
    vpts (F := F) (ch M r).view c fullShare f
      ⊣⊢ iprop((vpts (chLo M r).view c fullShare.left f ∗ vpts (chHi M r).view c fullShare.left f) ∗ vpts (ch M r).view c fullShare.right f) :=
  ⟨(pointsTo_share (PosShare.mem_left_op_right fullShare)).1.trans (sep_mono_left (halves M c r _ f).1),
    (sep_mono_left (halves M c r _ f).2).trans (pointsTo_share (PosShare.mem_left_op_right fullShare)).2⟩

/-! ## The forwarded halves -/

/-- A chunk of a received buffer, as a step reads it; -/
abbrev readAtRows (M : Memref sig .tc .vmem S256x1024 .bf16) (c : Dev nD) (r : Fin 8) (f : Buf (Elt F) (M.view.loc (c : Thread nD τ))) : Vec F S32x1024 .bf16 :=
  (M.access (rows r)).read (Elt F) f
/-- what that step stores into the result are the rows of the quarter it fills. -/
theorem pay21_y (c : Dev nD) (r : Fin 8) (p : S32x1024.Idx) : k0_pay21 (readAtRows yM c r (yC A B c)) p = quarterC A B c 1 ((rows r).idx p) := id rfl
theorem pay21_z (c : Dev nD) (r : Fin 8) (p : S32x1024.Idx) : k0_pay21 (readAtRows zM c r (zC A B c)) p = quarterC A B c 2 ((rows r).idx p) := id rfl
theorem pay21_d (c : Dev nD) (r : Fin 8) (p : S32x1024.Idx) : k0_pay21 (readAtRows dM c r (dC A B c)) p = quarterC A B c 3 ((rows r).idx p) := id rfl

def fwdYPre (c : Dev nD) (r : Fin 8) : sProp 𝕄 :=
  iprop(seat c (.inr (.inr (3, r))) ∗ claimOn c (.inr (3, r)) ∗ vany (chLo dM r).view (zn c)
    ∗ ticket c (.inr (.inr (8, r))) 0 ∗ ticket (zn c) (.inr (.inr (9, r))) 0 ∗ oPre c 1 r)
def fwdYPost (c : Dev nD) (r : Fin 8) : sProp 𝕄 :=
  iprop(closed c (.inr (.inr (3, r))) ∗ vpts (chHi yM r).view c fullShare.left (yC A B c) ∗ vpts (ch yM r).view c fullShare.right (yC A B c)
    ∗ claimOn c (.inr (8, r)) ∗ oPost A B c 1 r)

/-- The `y` neighbour's chunk arrives, its upper half goes on to the `z` neighbour, and it fills its rows of the result. -/
theorem fwdY_step (c : Dev nD) (r : Fin 8) (O : CellTallies nD τ sig Unit) (hO : Above 3 (O + oSend c 9 r)) (k : PP F) (Q : PUnit → sProp 𝕄) :
    iprop(known A B K ∗ fwdYPre c r ∗ due c (O + oSend c 9 r))
      ⊢ iprop((fwdYPost A B c r ∗ due c O -∗ runs c k Q) -∗ runs c (fwdY c r k) Q) := by
  unfold fwdYPre fwdYPost fwdY
  iintro ⟨#HK, ⟨Hs, Hc, Hd, Ht, Ht', Hout⟩, Ho⟩ Hk
  iapply (wait_step A B K c (.inr (3, r)) (ch ownM r) (ch yM r) (ww ownM (Memref.isWhole_whole _) r) (ww yM (Memref.isWhole_whole _) r) rfl
    (O + oSend c 9 r) hO _ Q) $$ [Hs Hc Ho]
  · isplitr; · iexact HK
    isplitl [Hs]; · iexact Hs
    isplitl [Hc]; · iexact Hc
    iexact Ho
  iintro ⟨Ho, Hcl, Hy⟩
  ihave Hy := (show pay A B c (.inr (.inr (3, r))) 0 ⊢ vpts (ch yM r).view c fullShare (yC A B c) from Entails.refl _) $$ Hy
  icases (lend yM c r (yC A B c)).1 $$ Hy with ⟨⟨HyL, HyH⟩, HyR⟩
  iapply (send_step A B K c (zn c) (zfDev c r) (zfDev_eq c r) (.inr (8, r)) (.inr (9, r)) (chLo yM r) (chLo dM r) rfl rfl fullShare.left (yC A B c)
    O (Entails.refl _)
    (vpts_lands (chLo dM r).view (zn c) (dC A B (zn c)) _ (fun p => by unfold dC; rw [zn_zn]; rfl)) _ Q) $$ [HyL Hd Ht Ht' Ho]
  · isplitr; · iexact HK
    isplitl [HyL]; · iexact HyL
    isplitl [Hd]; · iexact Hd
    isplitl [Ht]; · iexact Ht
    isplitl [Ht']; · iexact Ht'
    iexact Ho
  iintro ⟨Hc8, Ho⟩
  iapply (wp_load_rect 𝒱₀ (c : Thread nD τ) none Set.univ (m := yM) (r := rows r) (f := yC A B c) (S := (ch yM r).view.set) (q := fullShare.right) (Finset.Subset.refl _)) $$ [HyR]
  · iexact HyR
  iintro HyR
  iapply (fill_step A B c 1 r (off3_eq c r) (k0_off3_inb c r) (k0_pay21 (readAtRows yM c r (yC A B c))) (pay21_y A B c r) _ Q) $$ [Hout]
  · iexact Hout
  iintro Hout
  iapply Hk
  isplitr [Ho]
  · isplitl [Hcl]; · iexact Hcl
    isplitl [HyH]; · iexact HyH
    isplitl [HyR]; · iexact HyR
    isplitl [Hc8]; · iexact Hc8
    iexact Hout
  iexact Ho

def fwdZPre (c : Dev nD) (r : Fin 8) : sProp 𝕄 :=
  iprop(seat c (.inr (.inr (5, r))) ∗ claimOn c (.inr (5, r)) ∗ vany (chHi dM r).view (yn c)
    ∗ ticket c (.inr (.inr (6, r))) 0 ∗ ticket (yn c) (.inr (.inr (7, r))) 0 ∗ oPre c 2 r)
def fwdZPost (c : Dev nD) (r : Fin 8) : sProp 𝕄 :=
  iprop(closed c (.inr (.inr (5, r))) ∗ vpts (chLo zM r).view c fullShare.left (zC A B c) ∗ vpts (ch zM r).view c fullShare.right (zC A B c)
    ∗ claimOn c (.inr (6, r)) ∗ oPost A B c 2 r)

/-- The `z` neighbour's chunk arrives, its lower half goes on to the `y` neighbour, and it fills its rows of the result. -/
theorem fwdZ_step (c : Dev nD) (r : Fin 8) (O : CellTallies nD τ sig Unit) (hO : Above 3 (O + oSend c 7 r)) (k : PP F) (Q : PUnit → sProp 𝕄) :
    iprop(known A B K ∗ fwdZPre c r ∗ due c (O + oSend c 7 r))
      ⊢ iprop((fwdZPost A B c r ∗ due c O -∗ runs c k Q) -∗ runs c (fwdZ c r k) Q) := by
  unfold fwdZPre fwdZPost fwdZ
  iintro ⟨#HK, ⟨Hs, Hc, Hd, Ht, Ht', Hout⟩, Ho⟩ Hk
  iapply (wait_step A B K c (.inr (5, r)) (ch ownM r) (ch zM r) (ww ownM (Memref.isWhole_whole _) r) (ww zM (Memref.isWhole_whole _) r) rfl
    (O + oSend c 7 r) hO _ Q) $$ [Hs Hc Ho]
  · isplitr; · iexact HK
    isplitl [Hs]; · iexact Hs
    isplitl [Hc]; · iexact Hc
    iexact Ho
  iintro ⟨Ho, Hcl, Hz⟩
  ihave Hz := (show pay A B c (.inr (.inr (5, r))) 0 ⊢ vpts (ch zM r).view c fullShare (zC A B c) from Entails.refl _) $$ Hz
  icases (lend zM c r (zC A B c)).1 $$ Hz with ⟨⟨HzL, HzH⟩, HzR⟩
  iapply (send_step A B K c (yn c) (yfDev c r) (yfDev_eq c r) (.inr (6, r)) (.inr (7, r)) (chHi zM r) (chHi dM r) rfl rfl fullShare.left (zC A B c)
    O (Entails.refl _)
    (vpts_lands (chHi dM r).view (yn c) (dC A B (yn c)) _ (fun p => by unfold dC; rw [zn_yn, yn_yn]; rfl)) _ Q) $$ [HzH Hd Ht Ht' Ho]
  · isplitr; · iexact HK
    isplitl [HzH]; · iexact HzH
    isplitl [Hd]; · iexact Hd
    isplitl [Ht]; · iexact Ht
    isplitl [Ht']; · iexact Ht'
    iexact Ho
  iintro ⟨Hc6, Ho⟩
  iapply (wp_load_rect 𝒱₀ (c : Thread nD τ) none Set.univ (m := zM) (r := rows r) (f := zC A B c) (S := (ch zM r).view.set) (q := fullShare.right) (Finset.Subset.refl _)) $$ [HzR]
  · iexact HzR
  iintro HzR
  iapply (fill_step A B c 2 r (off4_eq c r) (k0_off4_inb c r) (k0_pay21 (readAtRows zM c r (zC A B c))) (pay21_z A B c r) _ Q) $$ [Hout]
  · iexact Hout
  iintro Hout
  iapply Hk
  isplitr [Ho]
  · isplitl [Hcl]; · iexact Hcl
    isplitl [HzL]; · iexact HzL
    isplitl [HzR]; · iexact HzR
    isplitl [Hc6]; · iexact Hc6
    iexact Hout
  iexact Ho

/-- Both chunks arrive and both halves go on. -/
theorem forward_step (c : Dev nD) (r : Fin 8) (k : PP F) (Q : PUnit → sProp 𝕄) :
    iprop(known A B K ∗ (fwdYPre c r ∗ fwdZPre c r) ∗ due c (oF c r.val))
      ⊢ iprop(((fwdYPost A B c r ∗ fwdZPost A B c r) ∗ due c (oF c (r.val + 1)) -∗ runs c k Q) -∗ runs c (forward c r k) Q) := by
  have hO : oF c r.val = (oF c (r.val + 1) + oSend c 7 r) + oSend c 9 r := by
    unfold oF
    rw [tail_step, ← add_assoc]
  have h7 : Above 3 (oF c (r.val + 1) + oSend c 7 r) := above_add (above_F c _) (above_send 3 c 7 r (by decide))
  unfold forward
  iintro ⟨#HK, ⟨Hy, Hz⟩, Ho⟩ Hk
  ihave Ho := (due_congr c hO) $$ Ho
  iapply (fwdY_step A B K c r (oF c (r.val + 1) + oSend c 7 r) (above_add h7 (above_send 3 c 9 r (by decide))) (fwdZ c r k) Q) $$ [Hy Ho]
  · isplitr; · iexact HK
    isplitl [Hy]; · iexact Hy
    iexact Ho
  iintro ⟨Hy, Ho⟩
  iapply (fwdZ_step A B K c r (oF c (r.val + 1)) h7 k Q) $$ [Hz Ho]
  · isplitr; · iexact HK
    isplitl [Hz]; · iexact Hz
    iexact Ho
  iintro ⟨Hz, Ho⟩
  iapply Hk
  isplitr [Ho]
  · isplitl [Hy]; · iexact Hy
    iexact Hz
  iexact Ho

/-! ## The diagonal quarter -/

def finalPre (c : Dev nD) (r : Fin 8) : sProp 𝕄 :=
  iprop(seat c (.inr (.inr (9, r))) ∗ claimOn c (.inr (9, r)) ∗ seat c (.inr (.inr (7, r))) ∗ claimOn c (.inr (7, r)) ∗ oPre c 3 r)
def finalPost (c : Dev nD) (r : Fin 8) : sProp 𝕄 :=
  iprop(closed c (.inr (.inr (9, r))) ∗ closed c (.inr (.inr (7, r))) ∗ vpts (ch dM r).view c fullShare (dC A B c) ∗ oPost A B c 3 r)

/-- Both halves of the diagonal chunk arrive and fill their rows of the result. -/
theorem final_step (c : Dev nD) (r : Fin 8) (k : PP F) (Q : PUnit → sProp 𝕄) :
    iprop(known A B K ∗ finalPre c r ∗ due c 0)
      ⊢ iprop((finalPost A B c r ∗ due c 0 -∗ runs c k Q) -∗ runs c (final c r k) Q) := by
  unfold finalPre finalPost final
  iintro ⟨#HK, ⟨Hs, Hc, Hs', Hc', Hout⟩, Ho⟩ Hk
  iapply (wait_step A B K c (.inr (9, r)) (chLo yM r) (chLo dM r) (wwLo yM (Memref.isWhole_whole _) r) (wwLo dM (Memref.isWhole_whole _) r) rfl
    0 (above_zero _) _ Q) $$ [Hs Hc Ho]
  · isplitr; · iexact HK
    isplitl [Hs]; · iexact Hs
    isplitl [Hc]; · iexact Hc
    iexact Ho
  iintro ⟨Ho, Hcl, HL⟩
  iapply (wait_step A B K c (.inr (7, r)) (chHi zM r) (chHi dM r) (wwHi zM (Memref.isWhole_whole _) r) (wwHi dM (Memref.isWhole_whole _) r) rfl
    0 (above_zero _) _ Q) $$ [Hs' Hc' Ho]
  · isplitr; · iexact HK
    isplitl [Hs']; · iexact Hs'
    isplitl [Hc']; · iexact Hc'
    iexact Ho
  iintro ⟨Ho, Hcl', HH⟩
  ihave HL := (show pay A B c (.inr (.inr (9, r))) 0 ⊢ vpts (chLo dM r).view c fullShare (dC A B c) from Entails.refl _) $$ HL
  ihave HH := (show pay A B c (.inr (.inr (7, r))) 0 ⊢ vpts (chHi dM r).view c fullShare (dC A B c) from Entails.refl _) $$ HH
  ihave Hd := ((halves dM c r fullShare (dC A B c)).2) $$ [HL HH]
  · isplitl [HL]; · iexact HL
    iexact HH
  iapply (wp_load_rect 𝒱₀ (c : Thread nD τ) none Set.univ (m := dM) (r := rows r) (f := dC A B c) (S := (ch dM r).view.set) (q := fullShare) (Finset.Subset.refl _)) $$ [Hd]
  · iexact Hd
  iintro Hd
  iapply (fill_step A B c 3 r (off5_eq c r) (k0_off5_inb c r) (k0_pay21 (readAtRows dM c r (dC A B c))) (pay21_d A B c r) _ Q) $$ [Hout]
  · iexact Hout
  iintro Hout
  iapply Hk
  isplitr [Ho]
  · isplitl [Hcl]; · iexact Hcl
    isplitl [Hcl']; · iexact Hcl'
    isplitl [Hd]; · iexact Hd
    iexact Hout
  iexact Ho

/-! ## The last waits -/

/-- The wait on a send's own semaphore, when nothing is owed any more. -/
theorem sent_step (c : Dev nD) (k₀ : Fin 10) (r : Fin 8) {s s' : Shape} (src : Memref sig .tc .vmem s' .bf16) (dst : Memref sig .tc .vmem s .bf16)
    (hs : src.view.WordExact) (hd : dst.view.WordExact) (hN : dst.view.dmaCredit = amt (.inr (.inr (k₀, r)))) (k : PUnit → PP F) (Q : PUnit → sProp 𝕄) :
    iprop(known A B K ∗ (seat c (.inr (.inr (k₀, r))) ∗ claimOn c (.inr (k₀, r))) ∗ due c 0)
      ⊢ iprop((due c 0 ∗ closed c (.inr (.inr (k₀, r))) ∗ chunkPay A B c r k₀ -∗ runs c (k ⟨⟩) Q)
          -∗ runs c (.op (.waitDma2 (semAt (fam k₀) r) src dst hs hd) k) Q) := by
  iintro ⟨#HK, ⟨Hs, Hc⟩, Ho⟩ Hk
  iapply (wait_step A B K c (.inr (k₀, r)) src dst hs hd hN 0 (above_zero _) k Q) $$ [Hs Hc Ho]
  · isplitr; · iexact HK
    isplitl [Hs]; · iexact Hs
    isplitl [Hc]; · iexact Hc
    iexact Ho
  iexact Hk

/-- The right to wait for a send to have left. -/
abbrev sent (c : Dev nD) (k₀ : Fin 10) (r : Fin 8) : sProp 𝕄 := iprop(seat c (.inr (.inr (k₀, r))) ∗ claimOn c (.inr (k₀, r)))

def drainPre (c : Dev nD) (r : Fin 8) : sProp 𝕄 :=
  iprop(sent c 0 r ∗ sent c 2 r ∗ sent c 4 r ∗ sent c 8 r ∗ sent c 6 r
    ∗ vpts (chHi yM r).view c fullShare.left (yC A B c) ∗ vpts (ch yM r).view c fullShare.right (yC A B c)
    ∗ vpts (chLo zM r).view c fullShare.left (zC A B c) ∗ vpts (ch zM r).view c fullShare.right (zC A B c))
def drainPost (c : Dev nD) (r : Fin 8) : sProp 𝕄 :=
  iprop((closed c (.inr (.inr (0, r))) ∗ closed c (.inr (.inr (2, r))) ∗ closed c (.inr (.inr (4, r))) ∗ closed c (.inr (.inr (8, r))) ∗ closed c (.inr (.inr (6, r))))
    ∗ vpts (ch mbM r).view c fullShare (mbC A B c) ∗ vpts (ch ownM r).view c fullShare (ownC A B c)
    ∗ vpts (ch yM r).view c fullShare (yC A B c) ∗ vpts (ch zM r).view c fullShare (zC A B c))

/-- All of a chunk's sends have left, and its buffers are whole again. -/
theorem drain_step (c : Dev nD) (r : Fin 8) (k : PP F) (Q : PUnit → sProp 𝕄) :
    iprop(known A B K ∗ drainPre A B c r ∗ due c 0)
      ⊢ iprop((drainPost A B c r ∗ due c 0 -∗ runs c k Q) -∗ runs c (drain r k) Q) := by
  unfold drainPre drainPost drain
  iintro ⟨#HK, ⟨H0, H2, H4, H8, H6, HyH, HyR, HzL, HzR⟩, Ho⟩ Hk
  iapply (sent_step A B K c 0 r (ch xcM r) (ch mbM r) (ww xcM (Memref.isWhole_whole _) r) (ww mbM (Memref.isWhole_whole _) r) rfl _ Q) $$ [H0 Ho]
  · isplitr; · iexact HK
    isplitl [H0]; · iexact H0
    iexact Ho
  iintro ⟨Ho, C0, H0⟩
  iapply (sent_step A B K c 2 r (ch yM r) (ch ownM r) (ww yM (Memref.isWhole_whole _) r) (ww ownM (Memref.isWhole_whole _) r) rfl _ Q) $$ [H2 Ho]
  · isplitr; · iexact HK
    isplitl [H2]; · iexact H2
    iexact Ho
  iintro ⟨Ho, C2, H2⟩
  iapply (sent_step A B K c 4 r (ch zM r) (ch ownM r) (ww zM (Memref.isWhole_whole _) r) (ww ownM (Memref.isWhole_whole _) r) rfl _ Q) $$ [H4 Ho]
  · isplitr; · iexact HK
    isplitl [H4]; · iexact H4
    iexact Ho
  iintro ⟨Ho, C4, H4⟩
  iapply (sent_step A B K c 8 r (chLo dM r) (chLo yM r) (wwLo dM (Memref.isWhole_whole _) r) (wwLo yM (Memref.isWhole_whole _) r) rfl _ Q) $$ [H8 Ho]
  · isplitr; · iexact HK
    isplitl [H8]; · iexact H8
    iexact Ho
  iintro ⟨Ho, C8, H8⟩
  iapply (sent_step A B K c 6 r (chHi dM r) (chHi zM r) (wwHi dM (Memref.isWhole_whole _) r) (wwHi zM (Memref.isWhole_whole _) r) rfl _ Q) $$ [H6 Ho]
  · isplitr; · iexact HK
    isplitl [H6]; · iexact H6
    iexact Ho
  iintro ⟨Ho, C6, H6⟩
  ihave H0 := (show chunkPay A B c r 0 ⊢ vpts (ch mbM r).view c fullShare (mbC A B c) from Entails.refl _) $$ H0
  ihave H2 := (show chunkPay A B c r 2 ⊢ vpts (ch ownM r).view c fullShare.left (ownC A B c) from Entails.refl _) $$ H2
  ihave H4 := (show chunkPay A B c r 4 ⊢ vpts (ch ownM r).view c fullShare.right (ownC A B c) from Entails.refl _) $$ H4
  ihave H8 := (show chunkPay A B c r 8 ⊢ vpts (chLo yM r).view c fullShare.left (yC A B c) from Entails.refl _) $$ H8
  ihave H6 := (show chunkPay A B c r 6 ⊢ vpts (chHi zM r).view c fullShare.left (zC A B c) from Entails.refl _) $$ H6
  iapply Hk
  isplitr [Ho]
  · isplitl [C0 C2 C4 C8 C6]
    · isplitl [C0]; · iexact C0
      isplitl [C2]; · iexact C2
      isplitl [C4]; · iexact C4
      isplitl [C8]; · iexact C8
      iexact C6
    isplitl [H0]; · iexact H0
    isplitl [H2 H4]
    · iapply (pointsTo_share (PosShare.mem_left_op_right fullShare)).2
      isplitl [H2]; · iexact H2
      iexact H4
    isplitl [H8 HyH HyR]
    · iapply (lend yM c r (yC A B c)).2
      isplitl [H8 HyH]
      · isplitl [H8]; · iexact H8
        iexact HyH
      iexact HyR
    iapply (lend zM c r (zC A B c)).2
    isplitl [H6 HzL]
    · isplitl [HzL]; · iexact HzL
      iexact H6
    iexact HzR
  iexact Ho

end

end Cert.KernelIdeal.Mesh

end
-- ==== Proof.Prelude.lean ====
/- The start of the kernel: the operands come in, the three neighbours are told and awaited, and the own product is
   formed. -/
module

public import proofs.«01_k».proof.Proof.Forward
public import Idealize.ShloMosaic.Lib.Ring

@[expose] public section

set_option maxHeartbeats 400000

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Splitting buffers -/

theorem zero_off : (![0, 0] : Fin 2 → ℕ) = fun _ => 0 := by decide

/-- The rectangle at offset zero of a buffer's own sizes is all of it. -/
theorem full_set (b : Ref sig .tc) {off : Fin b.ty.shape.rank → ℕ} (h : off = fun _ => 0) (inb : ∀ a, off a + b.ty.shape.size a ≤ b.ty.shape.size a) :
    ((Memref.whole b).access (Rect.unit off b.ty.shape.size inb)).set = (Memref.whole b).view.set := by
  subst h
  refine (View.set_slice_whole _ _).trans (Eq.trans ?_ (View.set_whole b).symm)
  exact Finset.eq_univ_iff_forall.mpr fun i => Rect.mem_set_unit.mpr fun a => ⟨Nat.zero_le _, by rw [Nat.zero_add]; exact (i a).isLt⟩

/-- A buffer is its eight chunks, -/
theorem by_rows {e : EltTy} (M : Memref sig .tc .vmem S256x1024 e) (c : Dev nD) (q : PosShare TreeShare) (f : Buf (Elt F) (M.view.loc (c : Thread nD τ))) :
    vpts (F := F) M.view c q f = bigSep Finset.univ fun r : Fin 8 => vpts (M.access (rows r)) c q f := by
  have h := Ring.pointsTo_sub_blocks (Ix := Unit) (Val := Elt F) (Name := ℕ) (U := UU) (Lvl := ℕ) (ℓ := M.view.loc (c : Thread nD τ))
    (fun r : Fin 8 => (M.view.slice (rows r)).set) (rows_disjoint M.view) M.view.set (rows_cover M.view) (q := q) f
  exact h

/-- also at unknown contents; -/
theorem any_rows (M : Memref sig .tc .vmem S256x1024 .bf16) (c : Dev nD) :
    vany (F := F) M.view c ⊢ bigSep Finset.univ fun r : Fin 8 => vany (ch M r).view c := by
  iintro ⟨%f, H⟩
  ihave H := (Entails.of_eq (by_rows M c fullShare f)) $$ H
  iapply (show (bigSep Finset.univ fun r : Fin 8 => vpts (F := F) (ch M r).view c fullShare f) ⊢ bigSep Finset.univ fun r : Fin 8 => vany (ch M r).view c
    from bigSep_mono fun r _ => show vpts (F := F) (ch M r).view c fullShare f ⊢ vany (ch M r).view c by iintro H; iexists f; iexact H)
  iexact H

/-- a chunk is its two halves. -/
theorem any_halves (M : Memref sig .tc .vmem S256x1024 .bf16) (c : Dev nD) (r : Fin 8) :
    vany (F := F) (ch M r).view c ⊢ iprop(vany (chLo M r).view c ∗ vany (chHi M r).view c) := by
  iintro ⟨%f, H⟩
  icases (halves M c r fullShare f).1 $$ H with ⟨H1, H2⟩
  isplitl [H1]
  · iexists f; iexact H1
  iexists f; iexact H2

section
variable (A B : Dev nD → Vec F S1024x4096 .f32) (K : Dev nD × CK → ℕ)

/-- The buffers given away with the three signals. -/
theorem give_away (c : Dev nD) :
    iprop(vany (F := F) xcM.view c ∗ vany yM.view c ∗ vany zM.view c ∗ vany dM.view c) ⊢ iprop(barPay (xp c) 0 ∗ barPay (yn c) 1 ∗ barPay (zn c) 2) := by
  have e0 : barPay (F := F) (xp c) 0 = bigSep Finset.univ fun r : Fin 8 => vany (ch xcM r).view c := by
    show (bigSep Finset.univ fun r : Fin 8 => vany (ch xcM r).view (xp (xp c))) = _
    rw [xp_xp]
  have e1 : barPay (F := F) (yn c) 1 = iprop((bigSep Finset.univ fun r : Fin 8 => vany (ch yM r).view c) ∗ bigSep Finset.univ fun r : Fin 8 => vany (chHi dM r).view c) := by
    show (bigSep Finset.univ fun r : Fin 8 => iprop(vany (ch yM r).view (yn (yn c)) ∗ vany (chHi dM r).view (yn (yn c)))) = _
    rw [yn_yn]; exact bigSep_sep' _ _ _
  have e2 : barPay (F := F) (zn c) 2 = iprop((bigSep Finset.univ fun r : Fin 8 => vany (ch zM r).view c) ∗ bigSep Finset.univ fun r : Fin 8 => vany (chLo dM r).view c) := by
    show (bigSep Finset.univ fun r : Fin 8 => iprop(vany (ch zM r).view (zn (zn c)) ∗ vany (chLo dM r).view (zn (zn c)))) = _
    rw [zn_zn]; exact bigSep_sep' _ _ _
  have hd : vany (F := F) dM.view c ⊢ iprop((bigSep Finset.univ fun r : Fin 8 => vany (chLo dM r).view c) ∗ bigSep Finset.univ fun r : Fin 8 => vany (chHi dM r).view c) :=
    (any_rows dM c).trans ((bigSep_mono fun r _ => any_halves dM c r).trans (Entails.of_eq (bigSep_sep' _ _ _)))
  rw [e0, e1, e2]
  iintro ⟨Hx, Hy, Hz, Hd⟩
  icases hd $$ Hd with ⟨HdL, HdH⟩
  isplitl [Hx]; · iapply (any_rows xcM c); iexact Hx
  isplitl [Hy HdH]
  · isplitl [Hy]; · iapply (any_rows yM c); iexact Hy
    iexact HdH
  isplitl [Hz]; · iapply (any_rows zM c); iexact Hz
  iexact HdL

/-! ## The start -/

def preludePre (c : Dev nD) : sProp 𝕄 :=
  iprop((vpts aM.view c fullShare (A c) ∗ vpts bM.view c fullShare (B c))
    ∗ (vany dyM.view c ∗ vany wM.view c ∗ vany mineM.view c ∗ vany mbM.view c)
    ∗ (vany xcM.view c ∗ vany yM.view c ∗ vany zM.view c ∗ vany dM.view c)
    ∗ (seat c (.inl ()) ∗ cred (tallyAt (kcell (c, .inl ())) () 3))
    ∗ (ticket (xp c) (.inl ()) 0 ∗ ticket (yn c) (.inl ()) 1 ∗ ticket (zn c) (.inl ()) 2)
    ∗ (seat c (.inr (.inl 0)) ∗ ticket c (.inr (.inl 0)) 0)
    ∗ (seat c (.inr (.inl 1)) ∗ ticket c (.inr (.inl 1)) 0))

def preludePost (c : Dev nD) : sProp 𝕄 :=
  iprop((vpts aM.view c fullShare (A c) ∗ vpts bM.view c fullShare (B c))
    ∗ (vany dyM.view c ∗ vany wM.view c ∗ vpts mineM.view c fullShare (mineC A B c) ∗ vpts mbM.view c fullShare (mbC A B c))
    ∗ (barPay c 0 ∗ barPay c 1 ∗ barPay c 2)
    ∗ (closed c (.inl ()) ∗ closed c (.inr (.inl 0)) ∗ closed c (.inr (.inl 1))))

theorem dy_lands (c : Dev nD) (p : S256x4096.Idx) : (aQ c).view.read (Elt F) (A c) p = dyAll.view.read (Elt F) (dyC A c) p :=
  (congrFun (Memref.read_access_unit_zero (Elt F) cc0_scratch0 zero_off inb_S256x4096_S256x4096_0_0 (dyC A c)) p).symm

theorem read_dy (f : Vec F S256x4096 .f32) : (dyM.access all4096q).read (Elt F) f = f :=
  Memref.read_access_unit_zero (Elt F) cc0_scratch0 zero_off inb_S256x4096_S256x4096_0_0 f
theorem read_w (f : Vec F S1024x4096 .f32) : (wM.access all4096).read (Elt F) f = f :=
  Memref.read_access_unit_zero (Elt F) cc0_scratch1 zero_off inb_S1024x4096_S1024x4096_0_0 f
theorem read_mine (f : Vec F S256x1024 .f32) : (mineM.access all1024).read (Elt F) f = f :=
  Memref.read_access_unit_zero (Elt F) cc0_scratch2 zero_off inb_S256x1024_S256x1024_0_0 f
theorem read_mb (f : Vec F S256x1024 .bf16) : (mbM.access all1024).read (Elt F) f = f :=
  Memref.read_access_unit_zero (Elt F) cc0_scratch3 zero_off inb_S256x1024_S256x1024_0_0 f

theorem mine_lands (c : Dev nD) (p : S256x1024.Idx) :
    k0_pay1 ((dyM.access all4096q).read (Elt F) (dyC A c)) ((wM.access all4096).read (Elt F) (B c)) p = (mineM.access all1024).read (Elt F) (mineC A B c) p := by
  rw [read_dy, read_w, read_mine, mineC]

theorem mb_lands (c : Dev nD) (p : S256x1024.Idx) :
    k0_pay2 ((mineM.access all1024).read (Elt F) (mineC A B c)) p = (mbM.access all1024).read (Elt F) (mbC A B c) p := by
  rw [read_mine, read_mb, mbC]

/-- A buffer held whole is held under the full rectangle. -/
theorem full_pts (b : Ref sig .tc) {off : Fin b.ty.shape.rank → ℕ} (h : off = fun _ => 0) (inb : ∀ a, off a + b.ty.shape.size a ≤ b.ty.shape.size a)
    (c : Dev nD) (q : PosShare TreeShare) (f : Buf (Elt F) ((Memref.whole b).view.loc (c : Thread nD τ))) :
    vpts (F := F) (Memref.whole b).view c q f = vpts ((Memref.whole b).access (Rect.unit off b.ty.shape.size inb)) c q f := by
  show ((Memref.whole b).view.loc (c : Thread nD τ) ↦[(Memref.whole b).view.set]{q} f : sProp 𝕄)
    = ((Memref.whole b).view.loc (c : Thread nD τ) ↦[((Memref.whole b).access (Rect.unit off b.ty.shape.size inb)).set]{q} f)
  rw [full_set b h inb]

theorem full_dy (c : Dev nD) (f : Buf (Elt F) (dyM.view.loc (c : Thread nD τ))) : vpts (F := F) dyM.view c fullShare f = vpts dyAll.view c fullShare f :=
  full_pts cc0_scratch0 zero_off inb_S256x4096_S256x4096_0_0 c fullShare f
theorem full_w (c : Dev nD) (f : Buf (Elt F) (wM.view.loc (c : Thread nD τ))) : vpts (F := F) wM.view c fullShare f = vpts (wM.access all4096) c fullShare f :=
  full_pts cc0_scratch1 zero_off inb_S1024x4096_S1024x4096_0_0 c fullShare f
theorem full_mine (c : Dev nD) (f : Buf (Elt F) (mineM.view.loc (c : Thread nD τ))) : vpts (F := F) mineM.view c fullShare f = vpts (mineM.access all1024) c fullShare f :=
  full_pts cc0_scratch2 zero_off inb_S256x1024_S256x1024_0_0 c fullShare f
theorem full_mb (c : Dev nD) (f : Buf (Elt F) (mbM.view.loc (c : Thread nD τ))) : vpts (F := F) mbM.view c fullShare f = vpts (mbM.access all1024) c fullShare f :=
  full_pts cc0_scratch3 zero_off inb_S256x1024_S256x1024_0_0 c fullShare f

/-- The own quarter of the first operand is part of it. -/
theorem aQ_split (c : Dev nD) (f : Buf (Elt F) (aM.view.loc (c : Thread nD τ))) :
    vpts (F := F) aM.view c fullShare f ⊣⊢ iprop(vpts (aQ c).view c fullShare f ∗ aM.view.loc (c : Thread nD τ) ↦[aM.view.set \ (aQ c).view.set]{fullShare} f) :=
  pointsTo_split_subset (by rw [View.set_whole]; exact Finset.subset_univ _)

/-- From the start to the own product, formed and rounded. -/
theorem prelude_step (c : Dev nD) (k : PP F) (Q : PUnit → sProp 𝕄) :
    iprop(known A B K ∗ preludePre A B c ∗ due c (O₀ c))
      ⊢ iprop((preludePost A B c ∗ due c (oX c 0) -∗ runs c k Q) -∗ runs c (prelude c k) Q) := by
  unfold preludePre preludePost prelude
  iintro ⟨#HK, ⟨⟨Ha, Hb⟩, ⟨Hdy, Hw, Hmine, Hmb⟩, Hgive, ⟨Hs, Hc⟩, ⟨Ht0, Ht1, Ht2⟩, ⟨Hsw, Htw⟩, Hsd, Htd⟩, Ho⟩ Hk
  -- the two copies
  iapply (copy_step A B K c (.inl 0) bM wM rfl (B c) (fun fd => sep_mono_left (vpts_lands wM.view c (B c) (bM.view.read (Elt F) (B c)) (fun p => rfl) fd)) _ Q) $$ [Hb Hw Htw]
  · isplitr; · iexact HK
    isplitl [Hb]; · iexact Hb
    isplitl [Hw]; · iexact Hw
    iexact Htw
  iintro Hcw
  icases (aQ_split c (A c)).1 $$ Ha with ⟨Haq, Har⟩
  icases Hdy with ⟨%fd, Hdy⟩
  ihave Hdy := (Entails.of_eq (full_dy c fd)) $$ Hdy
  iapply (copy_step A B K c (.inl 1) (aQ c) dyAll rfl (A c)
    (fun fd => sep_mono_left (vpts_lands dyAll.view c (dyC A c) _ (dy_lands A c) fd)) _ Q) $$ [Haq Hdy Htd]
  · isplitr; · iexact HK
    isplitl [Haq]; · iexact Haq
    isplitl [Hdy]; · iexists fd; iexact Hdy
    iexact Htd
  iintro Hcd
  -- the three signals
  icases (give_away c) $$ Hgive with ⟨Hg0, Hg1, Hg2⟩
  iapply (signal_step A B K c (xp c) _ (dev1_eq c) 0 (oX c 0 + oBar c 2 + oBar c 1) _ Q) $$ [Hg0 Ht0 Ho]
  · isplitr; · iexact HK
    isplitl [Hg0]; · iexact Hg0
    isplitl [Ht0]; · iexact Ht0
    iexact Ho
  iintro Ho
  iapply (signal_step A B K c (yn c) _ (dev2_eq c) 1 (oX c 0 + oBar c 2) _ Q) $$ [Hg1 Ht1 Ho]
  · isplitr; · iexact HK
    isplitl [Hg1]; · iexact Hg1
    isplitl [Ht1]; · iexact Ht1
    iexact Ho
  iintro Ho
  iapply (signal_step A B K c (zn c) _ (dev3_eq c) 2 (oX c 0) _ Q) $$ [Hg2 Ht2 Ho]
  · isplitr; · iexact HK
    isplitl [Hg2]; · iexact Hg2
    isplitl [Ht2]; · iexact Ht2
    iexact Ho
  iintro Ho
  iapply (barrier_step A B K c (oX c 0) (above_X c 0) _ Q) $$ [Hs Hc Ho]
  · isplitr; · iexact HK
    isplitl [Hs]; · iexact Hs
    isplitl [Hc]; · iexact Hc
    iexact Ho
  iintro ⟨Ho, Hcl, Hbar⟩
  -- the operands are in
  iapply (wait_step A B K c (.inl 0) bM wM (Memref.isWhole_whole main_arg1).wordExact (Memref.isWhole_whole cc0_scratch1).wordExact rfl
    (oX c 0) ((above_X c 0).mono (by decide)) _ Q) $$ [Hsw Hcw Ho]
  · isplitr; · iexact HK
    isplitl [Hsw]; · iexact Hsw
    isplitl [Hcw]; · iexact Hcw
    iexact Ho
  iintro ⟨Ho, Hclw, Hpw⟩
  icases (show pay A B c (.inr (.inl 0)) 0 ⊢ iprop(vpts (wM.access all4096) c fullShare (B c) ∗ vpts bM.view c fullShare (B c))
    from sep_mono_left (Entails.of_eq (full_w c (B c)))) $$ Hpw with ⟨Hw, Hb⟩
  iapply (wait_step A B K c (.inl 1) (aQ c) dyAll (View.wordExact_bits rfl) (View.wordExact_bits rfl) rfl
    (oX c 0) ((above_X c 0).mono (by decide)) _ Q) $$ [Hsd Hcd Ho]
  · isplitr; · iexact HK
    isplitl [Hsd]; · iexact Hsd
    isplitl [Hcd]; · iexact Hcd
    iexact Ho
  iintro ⟨Ho, Hcld, Hpd⟩
  icases (show pay A B c (.inr (.inl 1)) 0 ⊢ iprop(vpts (dyM.access all4096q) c fullShare (dyC A c) ∗ vpts (aQ c).view c fullShare (A c))
    from Entails.refl _) $$ Hpd with ⟨Hdy, Haq⟩
  ihave Ha := (aQ_split c (A c)).2 $$ [Haq Har]
  · isplitl [Haq]; · iexact Haq
    iexact Har
  -- the own product
  iapply (wp_load_rect 𝒱₀ (c : Thread nD τ) none Set.univ (m := dyM) (r := all4096q) (Finset.Subset.refl _)) $$ Hdy
  iintro Hdy
  iapply (wp_load_rect 𝒱₀ (c : Thread nD τ) none Set.univ (m := wM) (r := all4096) (Finset.Subset.refl _)) $$ Hw
  iintro Hw
  icases Hmine with ⟨%f, Hmine⟩
  ihave Hmine := (Entails.of_eq (full_mine c f)) $$ Hmine
  iapply (wp_load_rect 𝒱₀ (c : Thread nD τ) none Set.univ (m := mineM) (r := all1024) (Finset.Subset.refl _)) $$ Hmine
  iintro Hmine
  iapply (wp_store 𝒱₀ (c : Thread nD τ) none Set.univ (m := mineM) (r := all1024) (S := (mineM.access all1024).set) (f := f) (Finset.Subset.refl _)) $$ Hmine
  iintro Hmine
  ihave Hmine := (vpts_lands (mineM.access all1024) c (mineC A B c) _ (mine_lands A B c) f) $$ Hmine
  iapply (wp_load_rect 𝒱₀ (c : Thread nD τ) none Set.univ (m := mineM) (r := all1024) (Finset.Subset.refl _)) $$ Hmine
  iintro Hmine
  icases Hmb with ⟨%g, Hmb⟩
  ihave Hmb := (Entails.of_eq (full_mb c g)) $$ Hmb
  iapply (wp_load_rect 𝒱₀ (c : Thread nD τ) none Set.univ (m := mbM) (r := all1024) (Finset.Subset.refl _)) $$ Hmb
  iintro Hmb
  iapply (wp_store 𝒱₀ (c : Thread nD τ) none Set.univ (m := mbM) (r := all1024) (S := (mbM.access all1024).set) (f := g) (Finset.Subset.refl _)) $$ Hmb
  iintro Hmb
  ihave Hmb := (vpts_lands (mbM.access all1024) c (mbC A B c) _ (mb_lands A B c) g) $$ Hmb
  iapply Hk
  isplitr [Ho]
  · isplitl [Ha Hb]
    · isplitl [Ha]; · iexact Ha
      iexact Hb
    isplitl [Hdy Hw Hmine Hmb]
    · isplitl [Hdy]
      · iexists (dyC A c)
        iapply (Entails.of_eq (full_dy c (dyC A c)).symm); iexact Hdy
      isplitl [Hw]
      · iexists (B c)
        iapply (Entails.of_eq (full_w c (B c)).symm); iexact Hw
      isplitl [Hmine]
      · iapply (Entails.of_eq (full_mine c (mineC A B c)).symm); iexact Hmine
      iapply (Entails.of_eq (full_mb c (mbC A B c)).symm); iexact Hmb
    isplitl [Hbar]; · iexact Hbar
    isplitl [Hcl]; · iexact Hcl
    isplitl [Hclw]; · iexact Hclw
    iexact Hcld
  iexact Ho

end

end Cert.KernelIdeal.Mesh

end
-- ==== Proof.Body.lean ====
/- The whole kernel function on one device: from what it is started with to its result. -/
module

public import proofs.«01_k».proof.Proof.Prelude

@[expose] public section

set_option maxHeartbeats 400000

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## One resource per semaphore, by families -/

/-- Family `k` of a resource that every semaphore has. -/
abbrev famOf {I : Type} (T : I ⊕ KD → sProp 𝕄) (k : Fin 10) : sProp 𝕄 := bigSep Finset.univ fun r : Fin 8 => T (.inr (.inr (k, r)))

/-- The ten families one after the other. -/
abbrev tenFams {I : Type} (T : I ⊕ KD → sProp 𝕄) : sProp 𝕄 :=
  iprop(famOf T 0 ∗ famOf T 1 ∗ famOf T 2 ∗ famOf T 3 ∗ famOf T 4 ∗ famOf T 5 ∗ famOf T 6 ∗ famOf T 7 ∗ famOf T 8 ∗ famOf T 9)

/-- A resource that every semaphore has is its parts: the first summand's, the two operands' and the ten families'. -/
theorem by_fams {I : Type} [Fintype I] (T : I ⊕ KD → sProp 𝕄) :
    bigSep Finset.univ T = iprop((bigSep Finset.univ fun i : I => T (.inl i)) ∗ (T (.inr (.inl 0)) ∗ T (.inr (.inl 1))) ∗ tenFams T) := by
  rw [bigSep_univ_sum, bigSep_univ_sum (fun j : KD => T (.inr j)), bigSep_univ_prod,
    bigSep_univ_eq_bigSepL [0, 1] (by decide) (by decide) (fun i : Fin 2 => T (.inr (.inl i))),
    bigSep_univ_eq_bigSepL [0, 1, 2, 3, 4, 5, 6, 7, 8, 9] (by decide) (by decide) (fun k : Fin 10 => bigSep Finset.univ fun r : Fin 8 => T (.inr (.inr (k, r))))]
  rfl

theorem one {T : Unit → sProp 𝕄} : (bigSep Finset.univ T) = T () := bigSep_singleton
theorem three {T : Fin 3 → sProp 𝕄} : bigSep Finset.univ T = iprop(T 0 ∗ T 1 ∗ T 2) :=
  (bigSep_univ_eq_bigSepL [0, 1, 2] (by decide) (by decide) T).trans rfl
theorem four {T : Fin 4 → sProp 𝕄} : bigSep Finset.univ T = iprop(T 0 ∗ T 1 ∗ T 2 ∗ T 3) :=
  (bigSep_univ_eq_bigSepL [0, 1, 2, 3] (by decide) (by decide) T).trans rfl

/-! ## The result by blocks -/

/-- The result's buffer, at unknown contents, is its blocks; -/
theorem out_split (c : Dev nD) :
    iprop(∃ f : Buf (Elt F) (outM.view.loc (c : Thread nD τ)), outM.view.loc (c : Thread nD τ) ↦{fullShare} f)
      ⊢ (iprop((bigSep Finset.univ (oPre c 0)) ∗ (bigSep Finset.univ (oPre c 1)) ∗ (bigSep Finset.univ (oPre c 2)) ∗ bigSep Finset.univ (oPre c 3)) : sProp 𝕄) := by
  iintro ⟨%f, H⟩
  have h := Ring.pointsTo_blocks (Ix := Unit) (Val := Elt F) (Name := ℕ) (U := UU) (Lvl := ℕ) (ℓ := outM.view.loc (c : Thread nD τ))
    (oSet c) (oSet_disjoint c) (oSet_cover c) (q := fullShare) f
  have hj (j : Fin 4) : (bigSep Finset.univ fun r : Fin 8 => (outM.view.loc (c : Thread nD τ) ↦[oSet c (j, r)]{fullShare} f : sProp 𝕄)) ⊢ bigSep Finset.univ (oPre c j) :=
    bigSep_mono fun r _ => show (outM.view.loc (c : Thread nD τ) ↦[oSet c (j, r)]{fullShare} f : sProp 𝕄) ⊢ oPre c j r by
      unfold oPre; iintro H; iexists f; iexact H
  rw [bigSep_univ_prod, four] at h
  icases (Entails.of_eq h) $$ H with ⟨H0, H1, H2, H3⟩
  isplitl [H0]; · iapply (hj 0); iexact H0
  isplitl [H1]; · iapply (hj 1); iexact H1
  isplitl [H2]; · iapply (hj 2); iexact H2
  iapply (hj 3); iexact H3

/-- and the filled blocks are the result. -/
theorem out_join (A B : Dev nD → Vec F S1024x4096 .f32) (c : Dev nD) :
    (iprop((bigSep Finset.univ (oPost A B c 0)) ∗ (bigSep Finset.univ (oPost A B c 1)) ∗ (bigSep Finset.univ (oPost A B c 2)) ∗ bigSep Finset.univ (oPost A B c 3)) : sProp 𝕄)
      ⊢ (outM.view.loc (c : Thread nD τ) ↦{fullShare} (outC A B c : Buf (Elt F) (outM.view.loc (c : Thread nD τ)))) := by
  have h := Ring.pointsTo_blocks (Ix := Unit) (Val := Elt F) (Name := ℕ) (U := UU) (Lvl := ℕ) (ℓ := outM.view.loc (c : Thread nD τ))
    (oSet c) (oSet_disjoint c) (oSet_cover c) (q := fullShare) (outC A B c : Buf (Elt F) (outM.view.loc (c : Thread nD τ)))
  rw [bigSep_univ_prod, four] at h
  exact Entails.of_eq h.symm

section
variable (A B : Dev nD → Vec F S1024x4096 .f32) (K : Dev nD × CK → ℕ)

/-- Chunks held in full are the buffer, at some contents. -/
theorem join_rows {e : EltTy} (M : Memref sig .tc .vmem S256x1024 e) (c : Dev nD) (f : Buf (Elt F) (M.view.loc (c : Thread nD τ))) :
    (bigSep Finset.univ fun r : Fin 8 => vpts (F := F) (M.access (rows r)) c fullShare f) ⊢ vany M.view c := by
  iintro H
  iexists f
  iapply (Entails.of_eq (by_rows M c fullShare f).symm); iexact H

/-- The nine scratch buffers, at unknown contents. -/
def scratch (c : Dev nD) : sProp 𝕄 :=
  iprop((vany dyM.view c ∗ vany wM.view c ∗ vany mineM.view c ∗ vany mbM.view c) ∗ vany ownM.view c
    ∗ (vany xcM.view c ∗ vany yM.view c ∗ vany zM.view c ∗ vany dM.view c))

/-- The operands in HBM. -/
def args (c : Dev nD) : sProp 𝕄 := iprop(vpts aM.view c fullShare (A c) ∗ vpts bM.view c fullShare (B c))

/-- A device's places at its semaphores, the contributions it makes, and what the launch lets it claim. -/
def seats (c : Dev nD) : sProp 𝕄 := bigSep Finset.univ fun k : CK => seat c k
def tickets (c : Dev nD) : sProp 𝕄 := bigSep Finset.univ fun j : TK => ticket (peer j c) (cellOf' j) (dutyOf j)
def claims (c : Dev nD) : sProp 𝕄 := bigSep Finset.univ fun k : CK => cred (tallyAt (kcell (c, k)) () (credAmt k))
def allClosed (c : Dev nD) : sProp 𝕄 := bigSep Finset.univ fun k : CK => closed c k

/-- What the function starts with on device `c`, -/
def start (c : Dev nD) : sProp 𝕄 :=
  iprop(args A B c ∗ scratch c ∗ (∃ f : Buf (Elt F) (outM.view.loc (c : Thread nD τ)), outM.view.loc (c : Thread nD τ) ↦{fullShare} f)
    ∗ seats c ∗ tickets c ∗ claims c)
/-- and what it ends with. -/
def done (c : Dev nD) : sProp 𝕄 :=
  iprop(args A B c ∗ scratch c ∗ (outM.view.loc (c : Thread nD τ) ↦{fullShare} (outC A B c : Buf (Elt F) (outM.view.loc (c : Thread nD τ)))) ∗ allClosed c)

theorem seats_eq (c : Dev nD) : seats (F := F) c
    = iprop((bigSep Finset.univ fun u : Unit => seat c (.inl u)) ∗ (seat c (.inr (.inl 0)) ∗ seat c (.inr (.inl 1))) ∗ tenFams fun k : CK => seat c k) := by_fams _
theorem tickets_eq (c : Dev nD) : tickets (F := F) c
    = iprop((bigSep Finset.univ fun i : Fin 3 => ticket (peer (.inl i) c) (.inl ()) i) ∗ (ticket c (.inr (.inl 0)) 0 ∗ ticket c (.inr (.inl 1)) 0)
      ∗ tenFams fun j : TK => ticket (peer j c) (cellOf' j) (dutyOf j)) := by_fams _
theorem claims_eq (c : Dev nD) : claims (F := F) c
    = iprop((bigSep Finset.univ fun u : Unit => cred (tallyAt (kcell (c, .inl u)) () 3))
      ∗ (cred (tallyAt (kcell (c, .inr (.inl 0))) () 0) ∗ cred (tallyAt (kcell (c, .inr (.inl 1))) () 0))
      ∗ tenFams fun k : CK => cred (tallyAt (kcell (c, k)) () (credAmt k))) := by_fams _
theorem allClosed_eq (c : Dev nD) : allClosed (F := F) c
    = iprop((bigSep Finset.univ fun u : Unit => closed c (.inl u)) ∗ (closed c (.inr (.inl 0)) ∗ closed c (.inr (.inl 1))) ∗ tenFams fun k : CK => closed c k) := by_fams _

/-- What the launch lets a device claim at its receiving semaphores is a transfer's units at each. -/
theorem claim_fam (c : Dev nD) (k : Fin 10) (h : k.val % 2 = 1) :
    famOf (F := F) (fun k : CK => cred (tallyAt (kcell (c, k)) () (credAmt k))) k = bigSep Finset.univ fun r : Fin 8 => claimOn c (.inr (k, r)) :=
  bigSep_congr fun r _ => by
    show cred (tallyAt _ () (if k.val % 2 = 1 then amt (.inr (.inr (k, r))) else 0)) = _
    rw [if_pos h]

/-! ## A phase's resources, chunk by chunk and kind by kind -/

/-- One kind of resource of all eight chunks. -/
abbrev seatF (c : Dev nD) (k : Fin 10) : sProp 𝕄 := bigSep Finset.univ fun r : Fin 8 => seat c (.inr (.inr (k, r)))
abbrev tickF (c : Dev nD) (k : Fin 10) : sProp 𝕄 := bigSep Finset.univ fun r : Fin 8 => ticket c (.inr (.inr (k, r))) 0
abbrev claimF (c : Dev nD) (k : Fin 10) : sProp 𝕄 := bigSep Finset.univ fun r : Fin 8 => claimOn c (.inr (k, r))
abbrev closedF (c : Dev nD) (k : Fin 10) : sProp 𝕄 := bigSep Finset.univ fun r : Fin 8 => closed c (.inr (.inr (k, r)))

theorem tick_fam (c : Dev nD) (k : Fin 10) :
    famOf (F := F) (fun j : TK => ticket (peer j c) (cellOf' j) (dutyOf j)) k = tickF (kp k c) k := rfl

theorem xsend_all (c : Dev nD) : bigSep Finset.univ (xsendPre A B c)
    = iprop((bigSep Finset.univ fun r : Fin 8 => vpts (ch mbM r).view c fullShare (mbC A B c)) ∗ barPay c 0 ∗ tickF c 0 ∗ tickF (xp c) 1) := by
  unfold xsendPre
  rw [bigSep_sep', bigSep_sep', bigSep_sep']
  rfl

theorem reduce_all (c : Dev nD) : bigSep Finset.univ (reducePre A B c)
    = iprop(seatF c 1 ∗ claimF c 1 ∗ (bigSep Finset.univ fun r : Fin 8 => vpts (mineM.access (rows r)) c fullShare (mineC A B c))
      ∗ (bigSep Finset.univ (oPre c 0)) ∗ (bigSep Finset.univ fun r : Fin 8 => vany (ch ownM r).view c)
      ∗ (bigSep Finset.univ fun r : Fin 8 => vany (ch yM r).view (yn c)) ∗ tickF c 2 ∗ tickF (yn c) 3
      ∗ (bigSep Finset.univ fun r : Fin 8 => vany (ch zM r).view (zn c)) ∗ tickF c 4 ∗ tickF (zn c) 5) := by
  unfold reducePre
  rw [bigSep_sep', bigSep_sep', bigSep_sep', bigSep_sep', bigSep_sep', bigSep_sep', bigSep_sep', bigSep_sep', bigSep_sep', bigSep_sep']

theorem reduce_done (c : Dev nD) : bigSep Finset.univ (reducePost A B c)
    = iprop(closedF c 1 ∗ (bigSep Finset.univ fun r : Fin 8 => vpts (mineM.access (rows r)) c fullShare (mineC A B c))
      ∗ (bigSep Finset.univ fun r : Fin 8 => vpts (ch xcM r).view c fullShare (xcC A B c))
      ∗ (bigSep Finset.univ (oPost A B c 0)) ∗ claimF c 2 ∗ claimF c 4) := by
  unfold reducePost
  rw [bigSep_sep', bigSep_sep', bigSep_sep', bigSep_sep', bigSep_sep']

theorem forward_all (c : Dev nD) : (bigSep Finset.univ fun r : Fin 8 => iprop(fwdYPre (F := F) c r ∗ fwdZPre c r))
    = iprop((seatF c 3 ∗ claimF c 3 ∗ (bigSep Finset.univ fun r : Fin 8 => vany (chLo dM r).view (zn c)) ∗ tickF c 8 ∗ tickF (zn c) 9 ∗ bigSep Finset.univ (oPre c 1))
      ∗ (seatF c 5 ∗ claimF c 5 ∗ (bigSep Finset.univ fun r : Fin 8 => vany (chHi dM r).view (yn c)) ∗ tickF c 6 ∗ tickF (yn c) 7 ∗ bigSep Finset.univ (oPre c 2))) := by
  unfold fwdYPre fwdZPre
  rw [bigSep_sep', bigSep_sep', bigSep_sep', bigSep_sep', bigSep_sep', bigSep_sep', bigSep_sep', bigSep_sep', bigSep_sep', bigSep_sep', bigSep_sep']

theorem forward_done (c : Dev nD) : (bigSep Finset.univ fun r : Fin 8 => iprop(fwdYPost A B c r ∗ fwdZPost A B c r))
    = iprop((closedF c 3 ∗ (bigSep Finset.univ fun r : Fin 8 => vpts (chHi yM r).view c fullShare.left (yC A B c))
        ∗ (bigSep Finset.univ fun r : Fin 8 => vpts (ch yM r).view c fullShare.right (yC A B c)) ∗ claimF c 8 ∗ bigSep Finset.univ (oPost A B c 1))
      ∗ (closedF c 5 ∗ (bigSep Finset.univ fun r : Fin 8 => vpts (chLo zM r).view c fullShare.left (zC A B c))
        ∗ (bigSep Finset.univ fun r : Fin 8 => vpts (ch zM r).view c fullShare.right (zC A B c)) ∗ claimF c 6 ∗ bigSep Finset.univ (oPost A B c 2))) := by
  unfold fwdYPost fwdZPost
  rw [bigSep_sep', bigSep_sep', bigSep_sep', bigSep_sep', bigSep_sep', bigSep_sep', bigSep_sep', bigSep_sep', bigSep_sep']

theorem final_all (c : Dev nD) : bigSep Finset.univ (finalPre (F := F) c)
    = iprop(seatF c 9 ∗ claimF c 9 ∗ seatF c 7 ∗ claimF c 7 ∗ bigSep Finset.univ (oPre c 3)) := by
  unfold finalPre
  rw [bigSep_sep', bigSep_sep', bigSep_sep', bigSep_sep']

theorem final_done (c : Dev nD) : bigSep Finset.univ (finalPost A B c)
    = iprop(closedF c 9 ∗ closedF c 7 ∗ (bigSep Finset.univ fun r : Fin 8 => vpts (ch dM r).view c fullShare (dC A B c)) ∗ bigSep Finset.univ (oPost A B c 3)) := by
  unfold finalPost
  rw [bigSep_sep', bigSep_sep', bigSep_sep']

theorem drain_all (c : Dev nD) : bigSep Finset.univ (drainPre A B c)
    = iprop((seatF c 0 ∗ claimF c 0) ∗ (seatF c 2 ∗ claimF c 2) ∗ (seatF c 4 ∗ claimF c 4) ∗ (seatF c 8 ∗ claimF c 8) ∗ (seatF c 6 ∗ claimF c 6)
      ∗ (bigSep Finset.univ fun r : Fin 8 => vpts (chHi yM r).view c fullShare.left (yC A B c))
      ∗ (bigSep Finset.univ fun r : Fin 8 => vpts (ch yM r).view c fullShare.right (yC A B c))
      ∗ (bigSep Finset.univ fun r : Fin 8 => vpts (chLo zM r).view c fullShare.left (zC A B c))
      ∗ (bigSep Finset.univ fun r : Fin 8 => vpts (ch zM r).view c fullShare.right (zC A B c))) := by
  unfold drainPre sent
  rw [bigSep_sep', bigSep_sep', bigSep_sep', bigSep_sep', bigSep_sep', bigSep_sep', bigSep_sep', bigSep_sep', bigSep_sep', bigSep_sep', bigSep_sep',
    bigSep_sep', bigSep_sep']

theorem drain_done (c : Dev nD) : bigSep Finset.univ (drainPost A B c)
    = iprop((closedF c 0 ∗ closedF c 2 ∗ closedF c 4 ∗ closedF c 8 ∗ closedF c 6)
      ∗ (bigSep Finset.univ fun r : Fin 8 => vpts (ch mbM r).view c fullShare (mbC A B c))
      ∗ (bigSep Finset.univ fun r : Fin 8 => vpts (ch ownM r).view c fullShare (ownC A B c))
      ∗ (bigSep Finset.univ fun r : Fin 8 => vpts (ch yM r).view c fullShare (yC A B c))
      ∗ (bigSep Finset.univ fun r : Fin 8 => vpts (ch zM r).view c fullShare (zC A B c))) := by
  unfold drainPost
  rw [bigSep_sep', bigSep_sep', bigSep_sep', bigSep_sep', bigSep_sep', bigSep_sep', bigSep_sep', bigSep_sep']

/-- What the two barrier signals from the `y` and the `z` neighbour hand over, kind by kind. -/
theorem bar1_eq (c : Dev nD) : barPay (F := F) c 1
    = iprop((bigSep Finset.univ fun r : Fin 8 => vany (ch yM r).view (yn c)) ∗ bigSep Finset.univ fun r : Fin 8 => vany (chHi dM r).view (yn c)) := bigSep_sep' _ _ _
theorem bar2_eq (c : Dev nD) : barPay (F := F) c 2
    = iprop((bigSep Finset.univ fun r : Fin 8 => vany (ch zM r).view (zn c)) ∗ bigSep Finset.univ fun r : Fin 8 => vany (chLo dM r).view (zn c)) := bigSep_sep' _ _ _

theorem oX_end (c : Dev nD) : oX c 8 = oYZ c 0 := by unfold oX; rw [tail_end, add_zero]
theorem oYZ_end (c : Dev nD) : oYZ c 8 = oF c 0 := by unfold oYZ; rw [tail_end, add_zero]
theorem oF_end (c : Dev nD) : oF c 8 = 0 := tail_end _

set_option maxHeartbeats 2000000 in
/-- The kernel function on device `c`. -/
theorem loop_run (c : Dev nD) (Q : PUnit → sProp 𝕄) :
    iprop(known A B K ∗ start A B c ∗ due c (O₀ c))
      ⊢ iprop((done A B c ∗ due c 0 -∗ runs c (.ret ⟨⟩) Q) -∗ runs c (loop c) Q) := by
  unfold start done loop
  rw [seats_eq, tickets_eq, claims_eq, allClosed_eq, one, one, one, three]
  unfold tenFams args scratch
  iintro ⟨#HK, ⟨Hargs, ⟨⟨Hdy, Hw, Hmine, Hmb⟩, Hown, Hgive⟩, Hout, ⟨Sb, ⟨Sw, Sd⟩, S0, S1, S2, S3, S4, S5, S6, S7, S8, S9⟩,
    ⟨⟨Tx, Ty, Tz⟩, ⟨Tw, Td⟩, T0, T1, T2, T3, T4, T5, T6, T7, T8, T9⟩, Cb, -, -, C1, -, C3, -, C5, -, C7, -, C9⟩, Ho⟩ Hk
  ihave C1 := (Entails.of_eq (claim_fam c 1 rfl)) $$ C1
  ihave C3 := (Entails.of_eq (claim_fam c 3 rfl)) $$ C3
  ihave C5 := (Entails.of_eq (claim_fam c 5 rfl)) $$ C5
  ihave C7 := (Entails.of_eq (claim_fam c 7 rfl)) $$ C7
  ihave C9 := (Entails.of_eq (claim_fam c 9 rfl)) $$ C9
  -- the start
  iapply (prelude_step A B K c _ Q) $$ [Hargs Hdy Hw Hmine Hmb Hgive Sb Cb Tx Ty Tz Sw Tw Sd Td Ho]
  · isplitr; · iexact HK
    isplitr [Ho]
    · unfold preludePre
      isplitl [Hargs]; · iexact Hargs
      isplitl [Hdy Hw Hmine Hmb]
      · isplitl [Hdy]; · iexact Hdy
        isplitl [Hw]; · iexact Hw
        isplitl [Hmine]; · iexact Hmine
        iexact Hmb
      isplitl [Hgive]; · iexact Hgive
      isplitl [Sb Cb]
      · isplitl [Sb]; · iexact Sb
        iexact Cb
      isplitl [Tx Ty Tz]
      · isplitl [Tx]; · iexact Tx
        isplitl [Ty]; · iexact Ty
        iexact Tz
      isplitl [Sw Tw]
      · isplitl [Sw]; · iexact Sw
        iexact Tw
      isplitl [Sd]; · iexact Sd
      iexact Td
    iexact Ho
  unfold preludePost
  iintro ⟨⟨Hargs, ⟨Hdy, Hw, Hmine, Hmb⟩, ⟨Hb0, Hb1, Hb2⟩, Zb, Zw, Zd⟩, Ho⟩
  -- the first exchange
  ihave Hmb := (Entails.of_eq (by_rows mbM c fullShare (mbC A B c))) $$ Hmb
  iapply (phase A B K c (xsend c) (xsendPre A B c) (fun r => claimOn c (.inr (0, r))) (oX c) (xsend_step A B K c) _ Q) $$ [Hmb Hb0 T0 T1 Ho]
  · isplitr; · iexact HK
    isplitr [Ho]
    · iapply (Entails.of_eq (xsend_all A B c).symm)
      isplitl [Hmb]; · iexact Hmb
      isplitl [Hb0]; · iexact Hb0
      isplitl [T0]; · iexact T0
      iexact T1
    iexact Ho
  iintro ⟨C0, Ho⟩
  ihave Ho := (due_congr c (oX_end c)) $$ Ho
  -- the sums
  ihave Hmine := (Entails.of_eq (by_rows mineM c fullShare (mineC A B c))) $$ Hmine
  ihave Hown := (any_rows ownM c) $$ Hown
  icases (Entails.of_eq (bar1_eq c)) $$ Hb1 with ⟨Hyn, HdH⟩
  icases (Entails.of_eq (bar2_eq c)) $$ Hb2 with ⟨Hzn, HdL⟩
  icases (out_split c) $$ Hout with ⟨O0, O1, O2, O3⟩
  iapply (phase A B K c (reduce c) (reducePre A B c) (reducePost A B c) (oYZ c) (reduce_step A B K c) _ Q)
    $$ [S1 C1 Hmine O0 Hown Hyn T2 T3 Hzn T4 T5 Ho]
  · isplitr; · iexact HK
    isplitr [Ho]
    · iapply (Entails.of_eq (reduce_all A B c).symm)
      isplitl [S1]; · iexact S1
      isplitl [C1]; · iexact C1
      isplitl [Hmine]; · iexact Hmine
      isplitl [O0]; · iexact O0
      isplitl [Hown]; · iexact Hown
      isplitl [Hyn]; · iexact Hyn
      isplitl [T2]; · iexact T2
      isplitl [T3]; · iexact T3
      isplitl [Hzn]; · iexact Hzn
      isplitl [T4]; · iexact T4
      iexact T5
    iexact Ho
  iintro ⟨HR, Ho⟩
  icases (Entails.of_eq (reduce_done A B c)) $$ HR with ⟨Z1, Hmine, Hxc, O0, C2, C4⟩
  ihave Ho := (due_congr c (oYZ_end c)) $$ Ho
  -- the forwarded halves
  iapply (phase A B K c (forward c) (fun r => iprop(fwdYPre c r ∗ fwdZPre c r)) (fun r => iprop(fwdYPost A B c r ∗ fwdZPost A B c r)) (oF c)
      (forward_step A B K c) _ Q) $$ [S3 C3 HdL T8 T9 O1 S5 C5 HdH T6 T7 O2 Ho]
  · isplitr; · iexact HK
    isplitr [Ho]
    · iapply (Entails.of_eq (forward_all c).symm)
      isplitl [S3 C3 HdL T8 T9 O1]
      · isplitl [S3]; · iexact S3
        isplitl [C3]; · iexact C3
        isplitl [HdL]; · iexact HdL
        isplitl [T8]; · iexact T8
        isplitl [T9]; · iexact T9
        iexact O1
      isplitl [S5]; · iexact S5
      isplitl [C5]; · iexact C5
      isplitl [HdH]; · iexact HdH
      isplitl [T6]; · iexact T6
      isplitl [T7]; · iexact T7
      iexact O2
    iexact Ho
  iintro ⟨HR, Ho⟩
  icases (Entails.of_eq (forward_done A B c)) $$ HR with ⟨⟨Z3, HyH, HyR, C8, O1⟩, Z5, HzL, HzR, C6, O2⟩
  ihave Ho := (due_congr c (oF_end c)) $$ Ho
  -- the diagonal quarter
  iapply (phase A B K c (final c) (finalPre c) (finalPost A B c) (fun _ => 0) (final_step A B K c) _ Q) $$ [S9 C9 S7 C7 O3 Ho]
  · isplitr; · iexact HK
    isplitr [Ho]
    · iapply (Entails.of_eq (final_all c).symm)
      isplitl [S9]; · iexact S9
      isplitl [C9]; · iexact C9
      isplitl [S7]; · iexact S7
      isplitl [C7]; · iexact C7
      iexact O3
    iexact Ho
  iintro ⟨HR, Ho⟩
  icases (Entails.of_eq (final_done A B c)) $$ HR with ⟨Z9, Z7, Hd, O3⟩
  -- the last waits
  iapply (phase A B K c drain (drainPre A B c) (drainPost A B c) (fun _ => 0) (drain_step A B K c) _ Q)
    $$ [S0 C0 S2 C2 S4 C4 S8 C8 S6 C6 HyH HyR HzL HzR Ho]
  · isplitr; · iexact HK
    isplitr [Ho]
    · iapply (Entails.of_eq (drain_all A B c).symm)
      isplitl [S0 C0]
      · isplitl [S0]; · iexact S0
        iexact C0
      isplitl [S2 C2]
      · isplitl [S2]; · iexact S2
        iexact C2
      isplitl [S4 C4]
      · isplitl [S4]; · iexact S4
        iexact C4
      isplitl [S8 C8]
      · isplitl [S8]; · iexact S8
        iexact C8
      isplitl [S6 C6]
      · isplitl [S6]; · iexact S6
        iexact C6
      isplitl [HyH]; · iexact HyH
      isplitl [HyR]; · iexact HyR
      isplitl [HzL]; · iexact HzL
      iexact HzR
    iexact Ho
  iintro ⟨HR, Ho⟩
  icases (Entails.of_eq (drain_done A B c)) $$ HR with ⟨⟨Z0, Z2, Z4, Z8, Z6⟩, Hmb, Hown, Hy, Hz⟩
  -- everything is back
  iapply Hk
  isplitr [Ho]
  · isplitl [Hargs]; · iexact Hargs
    isplitl [Hdy Hw Hmine Hmb Hown Hxc Hy Hz Hd]
    · isplitl [Hdy Hw Hmine Hmb]
      · isplitl [Hdy]; · iexact Hdy
        isplitl [Hw]; · iexact Hw
        isplitl [Hmine]; · iapply (join_rows mineM c (mineC A B c)); iexact Hmine
        iapply (join_rows mbM c (mbC A B c)); iexact Hmb
      isplitl [Hown]; · iapply (join_rows ownM c (ownC A B c)); iexact Hown
      isplitl [Hxc]; · iapply (join_rows xcM c (xcC A B c)); iexact Hxc
      isplitl [Hy]; · iapply (join_rows yM c (yC A B c)); iexact Hy
      isplitl [Hz]; · iapply (join_rows zM c (zC A B c)); iexact Hz
      iapply (join_rows dM c (dC A B c)); iexact Hd
    isplitl [O0 O1 O2 O3]
    · iapply (out_join A B c)
      isplitl [O0]; · iexact O0
      isplitl [O1]; · iexact O1
      isplitl [O2]; · iexact O2
      iexact O3
    isplitl [Zb]; · iexact Zb
    isplitl [Zw Zd]
    · isplitl [Zw]; · iexact Zw
      iexact Zd
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    iexact Z9
  iexact Ho

end

end Cert.KernelIdeal.Mesh

end
-- ==== Proof.Ghost.lean ====
/- What the devices agree on before the run: every cell's agreement made, every device given the right to make its own
   contributions, and the launch's credit sorted by cell. -/
module

public import proofs.«01_k».proof.Proof.Body
public import Idealize.ShloMosaic.Lib.Pipeline.CollectiveSegs

@[expose] public section

set_option maxHeartbeats 400000

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's own semaphores. -/
abbrev osem (j : KD) : SemLoc sig := csem (.inr j)

theorem ownSemFacts : Pipeline.OwnSemFacts cfg0.spec osem where
  isScoped := by decide +kernel
  inj := fun i j h => Sum.inr_injective (csem_inj h)
  disj := by
    intro j w s h
    have e : dsem j = (cfg0.spec w).sem s := SemLoc.dma.inj h
    have hz : ∀ w s, ((cfg0.spec w).sem s).val = 0 := by decide
    have hp := dsem_pos j
    rw [e, hz] at hp
    exact Nat.lt_irrefl 0 hp

/-- All cells of all devices. -/
def meshCells : Finset (GSem nD τ sig) := Finset.univ.map ⟨kcell, kcell_inj⟩

/-- A contribution as its cell, round and number. -/
abbrev tokOf (x : Dev nD × TK) : GSem nD τ sig × ℕ × Fin 3 := (kcell (x.1, cellOf' x.2), 0, dutyOf x.2)

theorem tok_inj : ∀ i j : TK, cellOf' i = cellOf' j → dutyOf i = dutyOf j → i = j := by
  intro i j h h'
  rcases i with i | i <;> rcases j with j | j
  · exact congrArg Sum.inl h'
  · exact absurd h (by simp [cellOf'])
  · exact absurd h (by simp [cellOf'])
  · exact congrArg Sum.inr (Sum.inr_injective h)

theorem tokOf_inj : Function.Injective tokOf := by
  rintro ⟨c, i⟩ ⟨c', j⟩ h
  have h1 := kcell_inj (congrArg Prod.fst h)
  have h2 : dutyOf i = dutyOf j := congrArg (fun x => x.2.2) h
  have h3 : c = c' := congrArg Prod.fst h1
  have h4 : cellOf' i = cellOf' j := congrArg Prod.snd h1
  rw [h3, tok_inj i j h4 h2]

/-- All contributions of the run. -/
def meshToks : Finset (GSem nD τ sig × ℕ × Fin 3) := Finset.univ.map ⟨tokOf, tokOf_inj⟩

def u₀ : UU := (initOf (Pipeline.cells cfgs cellOf_inj) (Pipeline.launchToks cfgs cellOf_inj), initOf meshCells meshToks)

section
variable (A B : Dev nD → Vec F S1024x4096 .f32)

/-- The rights to contribute to the device's own cells. -/
def toks (c : Dev nD) : sProp 𝕄 := bigSep Finset.univ fun j : TK => ticket c (cellOf' j) (dutyOf j)

/-- What a device is dealt for its cells. -/
def G (c : Dev nD) : sProp 𝕄 :=
  iprop((bigSep Finset.univ fun k : CK => roundState ER (sched A B) (kcell (c, k)) 0)
    ∗ seats c ∗ (bigSep Finset.univ fun k : CK => reached ER (kcell (c, k)) 0) ∗ toks c)

/-- What a device starts from after the cells are agreed on. -/
def G' (c : Dev nD) : sProp 𝕄 :=
  iprop(∃ K : Dev nD × CK → ℕ, (bigSep Finset.univ fun x : Dev nD × CK => cellInv ER (sched A B) (K x) (kcell x))
    ∗ (bigSep Finset.univ fun x : Dev nD × CK => reached ER (kcell x) 0) ∗ seats c ∗ tickets c)

theorem fund_mesh : BI.own (ER (initOf meshCells meshToks)) ⊢ (|==> bigSep Finset.univ (G A B) : sProp 𝕄) := by
  have hX (Φ : GSem nD τ sig → sProp 𝕄) : bigSep meshCells Φ = bigSep Finset.univ fun c : Dev nD => bigSep Finset.univ fun k : CK => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => toks c := by
    unfold meshToks; rw [bigSep_map, bigSep_univ_prod]; rfl
  iintro HX
  imod (Rounds.fund ER (sched A B) meshCells meshToks) $$ HX with ⟨Hst, Hr, Hat, Htok⟩
  imodintro
  ihave Hst := (Entails.of_eq (hX fun g => roundState ER (sched A B) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G seats; simp only [bigSep_sep']
  isplitl [Hst]; · iexact Hst
  isplitl [Hat]; · iexact Hat
  isplitl [Hr]; · iexact Hr
  iexact Htok

theorem unscopedSems0_eq (c : Dev nD) : (unscopedSems0 c : sProp 𝕄) = closed c (.inl ()) := by
  unfold unscopedSems0; rw [bigSep_eq_bigSepL_of_eq [SemLoc.reg barSem] (by decide) (by decide)]; rfl

/-- A device's semaphores at zero are all its cells closed. -/
theorem closed_sems (c : Dev nD) :
    (allClosed c : sProp 𝕄)
      = iprop(unscopedSems0 c ∗ Pipeline.ownSems0 (Ix := Unit) (Name := ℕ) (U := UU) (Lvl := ℕ) (Val := Elt F) (τ := τ) osem c) := by
  unfold allClosed Pipeline.ownSems0
  rw [unscopedSems0_eq, bigSep_univ_sum, bigSep_univ_eq_bigSepL [()] (by decide) (by decide)]
  rfl

/-- A device makes the agreement at each of its cells. -/
theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k : CK => iprop(∃ κ : ℕ, cellInv ER (sched A B) κ (kcell (c, k))))
          ∗ seats c ∗ (bigSep Finset.univ fun k : CK => reached ER (kcell (c, k)) 0) ∗ toks c) := by
  unfold G
  iintro ⟨Hos, Hus, Hst, Hrest⟩
  ihave Hv := (Entails.of_eq (closed_sems (F := F) c).symm) $$ [Hos Hus]
  · isplitl [Hus]; · iexact Hus
    iexact Hos
  unfold allClosed
  imod (show iprop((bigSep Finset.univ fun k : CK => closed c k) ∗ bigSep Finset.univ fun k : CK => roundState ER (sched A B) (kcell (c, k)) 0)
      ⊢ (|={Set.univ}=> bigSep Finset.univ fun k : CK => iprop(∃ κ : ℕ, cellInv ER (sched A B) κ (kcell (c, k))) : sProp 𝕄) from by
        rw [← bigSep_sep']
        exact (bigSep_mono fun k _ => (Rounds.body_intro ER (sched A B) (kcell (c, k))).trans inv_alloc).trans (bigSep_fupd _ _)) $$ [Hv Hst] with Hinv
  · isplitl [Hv]; · iexact Hv
    iexact Hst
  imodintro
  isplitl [Hinv]; · iexact Hinv
  iexact Hrest

/-- Each neighbour's contributions dealt to the device that makes them. -/
def around : Dev nD × TK ≃ Dev nD × TK where
  toFun x := (peer x.2 x.1, x.2)
  invFun x := (peer x.2 x.1, x.2)
  left_inv x := by simp only [peer_peer]
  right_inv x := by simp only [peer_peer]

theorem toks_around : (bigSep Finset.univ fun c : Dev nD => (toks c : sProp 𝕄)) = bigSep Finset.univ fun c : Dev nD => tickets c := by
  unfold toks tickets
  rw [← bigSep_univ_prod (fun x : Dev nD × TK => (ticket x.1 (cellOf' x.2) (dutyOf x.2) : sProp 𝕄)),
    ← bigSep_univ_prod (fun x : Dev nD × TK => (ticket (peer x.2 x.1) (cellOf' x.2) (dutyOf x.2) : sProp 𝕄)),
    bigSep_univ_equiv around (fun x : Dev nD × TK => (ticket x.1 (cellOf' x.2) (dutyOf x.2) : sProp 𝕄))]
  rfl

theorem bigSep_with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (sched A B) κ (kcell (c, k))))
          ∗ seats c ∗ (bigSep Finset.univ fun k : CK => reached ER (kcell (c, k)) 0) ∗ toks c) : sProp 𝕄)
      ⊢ bigSep Finset.univ (G' A B) := by
  rw [bigSep_sep', bigSep_sep', bigSep_sep', toks_around,
    ← bigSep_univ_prod (fun x : Dev nD × CK => iprop(∃ κ : ℕ, cellInv ER (sched A B) κ (kcell x))),
    ← bigSep_univ_prod (fun x : Dev nD × CK => (reached ER (kcell x) 0 : sProp 𝕄))]
  iintro ⟨HI, Hat, #HR, Htok⟩
  ihave HK := (BI.bigSep_exists_pi Finset.univ (fun (x : Dev nD × CK) (κ : ℕ) => (cellInv ER (sched A B) κ (kcell x) : sProp 𝕄))) $$ HI
  icases HK with ⟨%K, #HI⟩
  iapply (bigSep_with_known (S := (Finset.univ : Finset (Dev nD)))
    (R := iprop((bigSep Finset.univ fun x : Dev nD × CK => (cellInv ER (sched A B) (K x) (kcell x) : sProp 𝕄))
      ∗ bigSep Finset.univ fun x : Dev nD × CK => (reached ER (kcell x) 0 : sProp 𝕄)))
    (Φ := fun c => iprop(seats c ∗ tickets c)) (Ψ := G' A B)
    fun c _ => by
      unfold G'
      iintro ⟨⟨HI, HR⟩, Hs, Ht⟩
      iexists K
      isplitl [HI]; · iexact HI
      isplitl [HR]; · iexact HR
      isplitl [Hs]; · iexact Hs
      iexact Ht)
  isplitr
  · isplitl; · iexact HI
    iexact HR
  rw [bigSep_sep']
  isplitl [Hat]; · iexact Hat
  iexact Htok

/-- All devices at once make all agreements. -/
theorem glob :
    (bigSep Finset.univ fun c => iprop(Pipeline.ownSems0 (Ix := Unit) (Name := ℕ) (U := UU) (Lvl := ℕ) (Val := Elt F) (τ := τ) osem c ∗ unscopedSems0 c ∗ G A B c) : sProp 𝕄)
      ⊢ |={Set.univ}=> bigSep Finset.univ (G' A B) :=
  ((bigSep_mono fun c _ => core_alloc A B c).trans (bigSep_fupd _ _)).trans (BI.fupd_mono (regroup A B))

end

/-- The launch's credit at a cell is what all devices together owe it. -/
theorem launch_cell (c : Dev nD) (k : CK) :
    tallyOn (kcell (c, k)) (launchCredit (Pipeline.owing O₀) 0 (kcell (c, k))) = (tallyAt (kcell (c, k)) () (credAmt k) : CellTallies nD τ sig Unit) := by
  unfold tallyAt; refine congrArg _ (Finsupp.ext fun u => ?_); cases u
  rw [Pipeline.launchCredit_owing, Finsupp.single_eq_same]
  exact sum_owed c k ()

theorem launch_claims (c : Dev nD) : (Pipeline.launchCred O₀ c : sProp 𝕄) ⊢ claims c := by
  unfold Pipeline.launchCred claims
  refine (bigSep_subset (Finset.subset_univ (Finset.univ.map ⟨csem, csem_inj⟩))).trans ?_
  rw [bigSep_map]
  exact bigSep_mono fun k _ => Entails.of_eq (congrArg cred (launch_cell c k))

theorem mayWait_stage (c : Dev nD) (q : DmaSem sig) (hq : q.val = 0) (O : CellTallies nD τ sig Unit) (hO : O = O₀ c ∨ O = 0) :
    (levAts L lv : sProp 𝕄) ⊢ MayWait (c : Thread nD τ) (.dma q) () O := by
  have hlv : lv ((c : Thread nD τ), .dma q) () ≤ 0 := by
    unfold lv
    rw [decode_none]
    rintro ⟨c', a⟩ h
    have h2 : csem a = .dma q := congrArg Prod.snd h
    rcases a with a | a
    · exact absurd h2 (by simp [csem])
    · have h3 : dsem a = q := by simpa [csem] using h2
      have := dsem_pos a
      rw [h3] at this
      omega
  refine mayWait_of_above c (.dma q) 0 hlv O ?_
  rcases hO with rfl | rfl
  · exact above_O₀ c
  · exact above_zero 0

end Cert.KernelIdeal.Mesh

end
-- ==== Proof.Launch.lean ====
/- The kernel's run on the whole mesh, for any float values: it ends, with every device's result at `outC`, the
   arguments as they were and every semaphore at zero. -/
module

public import proofs.«01_k».proof.Proof.Ghost

@[expose] public section

set_option maxHeartbeats 400000

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The arguments as every device holds them at the start. -/
def argA (c : Dev nD) : Vec F S1024x4096 .f32 := m ((c : Thread nD τ).loc main_arg0)
def argB (c : Dev nD) : Vec F S1024x4096 .f32 := m ((c : Thread nD τ).loc main_arg1)

/-- What a device starts the kernel with, -/
def Φ₀ (c : Dev nD) : sProp 𝕄 :=
  iprop(args (argA m) (argB m) c ∗ scratch c ∗ G' (argA m) (argB m) c ∗ claims c ∗ levels)
/-- and ends it with. -/
def Φ₁ (c : Dev nD) : sProp 𝕄 := iprop(args (argA m) (argB m) c ∗ scratch c ∗ allClosed c)

def t₀ : Fin cfg0.N := t0_0
theorem fin_N (t : Fin cfg0.N) : t = t₀ := fin_N0 t

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outC (argA m) (argB m) c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 1)) := bigSep_W0 Φ

/-- A whole buffer's ownership as its points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def bodyPre (c : Dev nD) : sProp 𝕄 :=
  iprop(Φ₀ m c ∗ (dats m ρ 0 c).owesAt () t₀.castSucc ∗ (∃ d, stg c ((dats m ρ 0 c).before (0 : Fin 1) t₀ d)))
def bodyPost (c : Dev nD) : sProp 𝕄 :=
  iprop(Φ₁ m c ∗ (dats m ρ 0 c).owesAt () t₀.succ ∗ stg c (outC (argA m) (argB m) c))

theorem sound_body (c : Dev nD) :
    bodyPre m ρ c ⊢ runs c (bodyAt0 (F := F) t₀) (fun _ => bodyPost m ρ c) := by
  unfold runs
  rw [body_eq_loop]
  simp only [wp_deviceId]
  unfold bodyPre Φ₀ G' Dat.owesAt Pipeline.owesWithin
  rw [show (dats m ρ 0 c).owed t₀.castSucc = O₀ c from rfl]
  iintro ⟨⟨Hargs, Hscr, ⟨%K, #HI, #HR, Hs, Ht⟩, Hc, #Hlev⟩, ⟨%W, %hW, HO⟩, ⟨%d, %g, %hg, Hout⟩⟩
  iapply (loop_run (argA m) (argB m) K c (fun _ => bodyPost m ρ c)) $$ [Hargs Hscr Hs Ht Hc HO Hout]
  · isplitr
    · unfold known
      isplitr; · iexact HI
      isplitr; · iexact HR
      iexact Hlev
    isplitr [HO]
    · unfold start
      isplitl [Hargs]; · iexact Hargs
      isplitl [Hscr]; · iexact Hscr
      isplitl [Hout]; · iexists g; iexact Hout
      isplitl [Hs]; · iexact Hs
      isplitl [Ht]; · iexact Ht
      iexact Hc
    unfold due
    iexists W
    iexact HO
  iintro ⟨HD, HO⟩
  unfold done due
  icases HD with ⟨Hargs, Hscr, Hout, Hz⟩
  icases HO with ⟨%W', HO⟩
  unfold runs
  rw [wp_ret]; imodintro
  unfold bodyPost Φ₁ Dat.owesAt Pipeline.owesWithin
  rw [show (dats m ρ 0 c).owed t₀.succ = 0 from rfl]
  isplitl [Hargs Hscr Hz]
  · isplitl [Hargs]; · iexact Hargs
    isplitl [Hscr]; · iexact Hscr
    iexact Hz
  isplitl [HO]
  · iexists W'
    isplitr; · ipureintro; exact fun _ _ => Or.inl trivial
    iexact HO
  iexists _
  isplitr; · (ipureintro; rfl)
  iexact Hout

theorem body_row (t : Fin cfg0.N) : defs₀ (F := F) Proc.tc 0 (t, cfg0.slots t) = bodyAt0 t := rfl

theorem body_obligation (c : Dev nD) : BodyObligation (dats (F := F) m ρ 0 c) (defs₀ (F := F)) 𝒱₀ () Set.univ := fun t => by
  rw [fin_N t]
  rw [bigSep_W, bigSep_W]
  simp only [owns_whole_eq]
  have h := sound_body m ρ c
  unfold runs at h
  rw [body_row]
  generalize bodyAt0 (F := F) t₀ = p at h ⊢
  exact h

theorem share_eq (c : Dev nD) (w : Fin cfg0.W) : (dats m ρ 0 c).share w = fullShare := by unfold Dat.share; split <;> rfl

/-! ## What goes in and what comes out -/

theorem args_eq (c : Dev nD) :
    (args (argA m) (argB m) c : sProp 𝕄)
      = iprop((((c : Thread nD τ).loc main_arg0) ↦{fullShare} m ((c : Thread nD τ).loc main_arg0))
          ∗ (((c : Thread nD τ).loc main_arg1) ↦{fullShare} m ((c : Thread nD τ).loc main_arg1))) := by
  unfold args argA argB vpts
  simp only [Memref.view_whole, View.set_whole]

/-- The scratch buffers, in the order of the printed operands. -/
theorem scratch_iff (c : Dev nD) :
    ((scratch c : sProp 𝕄) ⊢ Pipeline.scopedRest cfg0.spec c) ∧ ((Pipeline.scopedRest cfg0.spec c : sProp 𝕄) ⊢ scratch c) := by
  rw [scopedRest0_eq]
  unfold scratch vany vpts
  simp only [Memref.view_whole, View.set_whole]
  constructor
  · iintro ⟨⟨H0, H1, H2, H3⟩, H5, H4, H6, H7, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨H0, H1, H2, H3, H4, H5, H6, H7, H8⟩
    isplitl [H0 H1 H2 H3]
    · isplitl [H0]; · iexact H0
      isplitl [H1]; · iexact H1
      isplitl [H2]; · iexact H2
      iexact H3
    isplitl [H5]; · iexact H5
    isplitl [H4]; · iexact H4
    isplitl [H6]; · iexact H6
    isplitl [H7]; · iexact H7
    iexact H8

/-- What the launch routes into the kernel, -/
def enter (c : Dev nD) : sProp 𝕄 := iprop(args (argA m) (argB m) c ∗ G' (argA m) (argB m) c ∗ claims c ∗ levels)
/-- and out of it. -/
def leave (c : Dev nD) : sProp 𝕄 := iprop(args (argA m) (argB m) c ∗ unscopedSems0 c)

theorem enter_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argA m) (argB m) c)
      ⊢ |={Set.univ}=> iprop(enter m c ∗ emp) := by
  rw [Pipeline.unscopedRestP_none, unscopedRest0_eq]
  iintro ⟨Ha, Hlev, Hcr, -, HG⟩
  ihave Hc := (launch_claims (F := F) c) $$ Hcr
  imodintro
  unfold enter levels
  isplitl
  · isplitl [Ha]; · iapply (Entails.of_eq (args_eq m c).symm); iexact Ha
    isplitl [HG]; · iexact HG
    isplitl [Hc]; · iexact Hc
    iexact Hlev
  iempintro

theorem phi0_intro (c : Dev nD) :
    iprop(enter m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold enter Φ₀
  iintro ⟨⟨Ha, HG, Hc, Hl⟩, -, Hr⟩
  isplitl [Ha]; · iexact Ha
  isplitl [Hr]; · iapply (scratch_iff (F := F) c).2; iexact Hr
  isplitl [HG]; · iexact HG
  isplitl [Hc]; · iexact Hc
  iexact Hl

theorem phi1_exit (c : Dev nD) :
    (dats m ρ 0 c).Φ (Fin.last cfg0.N) ⊢ iprop(leave m c ∗ Pipeline.ownSems0 osem c ∗ Pipeline.scopedRest cfg0.spec c) := by
  rw [show (dats m ρ 0 c).Φ (Fin.last cfg0.N) = Φ₁ m c from rfl]
  unfold Φ₁ leave
  iintro ⟨Ha, Hr, Hz⟩
  ihave Hz := (Entails.of_eq (closed_sems (F := F) c)) $$ Hz
  icases Hz with ⟨Hu, Ho⟩
  isplitl [Ha Hu]
  · isplitl [Ha]; · iexact Ha
    iexact Hu
  isplitl [Ho]; · iexact Ho
  iapply (scratch_iff (F := F) c).1; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What is read off the final memory of a device beside its result. -/
def kept (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c : Thread nD τ), sm) = 0

theorem leave_read (c : Dev nD) (s' : Phys nD τ sig (Elt F)) :
    iprop(leave m c ∗ emp ∗ SI s') ⊢ |={Set.univ}=> iprop(⌜kept m c s'.mem⌝ ∗ SI s') := by
  unfold leave
  rw [args_eq]
  iintro ⟨⟨⟨H0, H1⟩, Hu⟩, -, HSI⟩
  icombine HSI H0 gives %h0
  icombine HSI H1 gives %h1
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨⟨Buf.eq_of_forall_mem_univ h0, Buf.eq_of_forall_mem_univ h1⟩, hs⟩
  iexact HSI

/-- The one block written back is the whole array. -/
theorem mem_blk (t : Fin cfg0.N) (i : S1024x1024.Idx) : i ∈ ((cfg0.win 0).blk t).view.set := by
  show i ∈ ((View.whole main_v1).slice (win0_0.rect t)).set
  rw [View.set_slice_whole, Rect.mem_set_unit]
  obtain rfl := fin_N0 t
  have e : ∀ a : Fin 2, win0_0.index t0_0 a * win0_0.size a = 0 ∧ win0_0.xsize (grid0.coords t0_0) a = S1024x1024.size a := by decide +kernel
  intro a
  have h := e a
  show win0_0.index t0_0 a * win0_0.size a ≤ (i a : Nat) ∧ (i a : Nat) < win0_0.index t0_0 a * win0_0.size a + win0_0.xsize (grid0.coords t0_0) a
  rw [h.1, h.2]
  exact ⟨Nat.zero_le _, by rw [Nat.zero_add]; exact (i a).isLt⟩

/-- The result array after the run. -/
theorem result_eq (c : Dev nD) : (dats m ρ 0 c).arrAt (0 : Fin 1) cfg0.N = outC (argA m) (argB m) c := by
  refine (dats m ρ 0 c).arrAt_eq_of_cover (0 : Fin 1) (outC (argA m) (argB m) c) (fun t _ => ?_) fun i => ⟨t₀, flush0_0 t₀, mem_blk t₀ i⟩
  obtain rfl := fin_N0 t
  have ha : (dats m ρ 0 c).after (0 : Fin 1) t0_0 = outC (argA m) (argB m) c := by dsimp only [dats]
  unfold Pipeline.Dat.flushed
  rw [ha]
  generalize outC (argA m) (argB m) c = g
  funext y
  refine congrArg g (funext fun a => Fin.ext ?_)
  have e : ∀ a : Fin 2, win0_0.index t0_0 a * win0_0.size a = 0 := by decide +kernel
  show (y a : Nat) = win0_0.index t0_0 a * win0_0.size a + 1 * (y a : Nat)
  rw [e a, Nat.zero_add, Nat.one_mul]

/-- What every run ends in. -/
def Ends (r : PUnit × MemSt nD τ sig (Elt F)) : Prop :=
  (∀ c : Dev nD, r.2.mem ((c : Thread nD τ).loc main_v1) = outC (argA m) (argB m) c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

set_option maxRecDepth 8000 in
/-- From any memory with zero counters, every weakly fair run of the program on the mesh ends in `Ends`. -/
theorem run_main : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (argA m) (argB m)) (G' := G' (argA m) (argB m)) (u₀ := u₀)
    (hu₀ := by
      unfold u₀
      iintro Hu
      ihave H := (ownU_pair _ _) $$ Hu
      icases H with ⟨HP, HX⟩
      imod (fund_mesh (argA m) (argB m)) $$ HX with HG
      imodintro
      isplitl [HP]; · iexact HP
      iexact HG)
    (hglob := glob (argA m) (argB m))
    (hA := fun _ _ => rfl) (hpf := fun _ k => k.elim0)
    (X := enter m) (Y := leave m) (Z := fun _ => iprop(emp))
    (hX := enter_intro m ρ) (hin := phi0_intro m ρ) (hout := phi1_exit m ρ)
    (QY := kept m)
    (hY := leave_read m)
    (hQ := fun _ h hs => ⟨fun c => ⟨((h c).1 (0 : Fin 1)).trans (result_eq m ρ c), (h c).2.2.1.1, (h c).2.2.1.2⟩, sem_eq_zero hs fun c => (h c).2.2.2⟩)

end Cert.KernelIdeal.Mesh

end
-- ==== Proof.Frames.lean ====
/- The three frames: every run of each program ends with its arguments as they were and every counter at zero. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem
open Cert.KernelIdeal.Mesh (run_main)

/-- Over any float values: every run of the program ends with its arguments as they were and every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ h => ⟨fun c => (h.1 c).2, h.2⟩) (run_main (F := F) m ρ)

/-- The frame of the program read at `Ideal`. -/
theorem frame_kernelIdeal : Cert.quiescent_KernelIdeal (hKernelIdeal := Cert.KernelIdeal.Gen.facts) := fun m ρ _ => frame_any (F := Ideal) m ρ

/-- The two programs have one text: their bodies are the same, -/
theorem bodies_eq {F : FTy → Type} [FloatOps F] : Cert.Kernel.defs₀ (F := F) = Cert.KernelIdeal.defs₀ := by
  unfold Cert.Kernel.defs₀ Cert.KernelIdeal.defs₀
  refine congrArg Defs.onTc ?_
  funext l a
  match l, a with
  | 0, (t, s) => rfl

/-- and so is everything they call. -/
theorem defs_eq {F : FTy → Type} [FloatOps F] : Cert.Kernel.defs (F := F) = Cert.KernelIdeal.defs :=
  congrArg (fun d => Pipeline.defs (Cert.KernelIdeal.pcfgs (F := F)) d) bodies_eq

/-- The frame of the program read at `Bits`: the same run. -/
theorem frame_kernel : Cert.quiescent_Kernel (hKernel := Cert.Kernel.Gen.facts) := fun m ρ _ => by
  have h := frame_any (F := Bits) m ρ
  rw [← defs_eq] at h
  exact h

/-- The frame of the reference, which has two host operations and no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.lean ====
/- The result at the ideal values: on every device, every element is the whole row of the first array times the whole
   row of the second. -/
module

public import proofs.«01_k».proof.Proof.Mesh
public import Idealize.ShloMosaic.Lib.Layout
public import Idealize.ShloMosaic.Lib.MatmulPlain
public import Idealize.ShloMosaic.Lib.Pipeline.Value
public import Idealize.ShloMosaic.PureOps.Ideal.Laws

@[expose] public section

noncomputable section

namespace Cert.KernelIdeal.Mesh

open Cert.KernelIdeal Cert.KernelIdeal.Gen
open Idealize.ShloMosaic Idealize.ShloMosaic.TcCoe Idealize.ShloMosaic.ValueIdx

/-- A whole array: 1024 rows of 8192 elements. -/
abbrev Whole : Type := (⟨2, ![1024, 8192]⟩ : Shape).Idx → EReal

/-- The column of the whole array that column `k` of half `h` is. -/
def col (h : Fin 2) (k : Fin 4096) : Fin 8192 := ⟨h.val * 4096 + k.val, by omega⟩

/-- The half of the columns a device holds. -/
def half (c : Dev nD) : Fin 2 := ⟨c.val / 16 % 2, Nat.mod_lt _ (by decide)⟩

/-- Row `r` of `X` times row `t` of `W`, over the columns of half `h`. -/
def part (X W : Whole) (h : Fin 2) (r t : Fin 1024) : EReal := ∑ k : Fin 4096, X (ix2 r (col h k)) * W (ix2 t (col h k))

/-- Row `r` of `X` times row `t` of `W`. -/
def full (X W : Whole) (r t : Fin 1024) : EReal := ∑ k : Fin 8192, X (ix2 r k) * W (ix2 t k)

/-- The two halves make the whole product, -/
theorem part_add (X W : Whole) (r t : Fin 1024) : part X W 0 r t + part X W 1 r t = full X W r t := by
  refine Eq.trans ?_ (Fin.sum_univ_add (a := 4096) (b := 4096) fun k => X (ix2 r k) * W (ix2 t k)).symm
  refine congrArg₂ (· + ·) (Finset.sum_congr rfl fun k _ => ?_) (Finset.sum_congr rfl fun k _ => ?_)
  · have e : col 0 k = Fin.castAdd 4096 k := Fin.ext (by show 0 * 4096 + k.val = k.val; omega)
    rw [e]
  · have e : col 1 k = Fin.natAdd 4096 k := Fin.ext (by show 1 * 4096 + k.val = 4096 + k.val; omega)
    rw [e]

/-- in either order. -/
theorem part_add_other (X W : Whole) (h h' : Fin 2) (hh : h ≠ h') (r t : Fin 1024) :
    part X W h r t + part X W h' r t = full X W r t := by
  rw [← part_add]
  match h, h', hh with
  | 0, 0, hh => exact absurd rfl hh
  | 0, 1, _ => rfl
  | 1, 0, _ => exact add_comm _ _
  | 1, 1, hh => exact absurd rfl hh

/-- The product of a quarter and the second operand, at an element. -/
theorem product_apply (a : Vec Ideal S256x4096 .f32) (b : Vec Ideal S1024x4096 .f32) (r : Fin 256) (t : Fin 1024) :
    k0_pay1 (F := Ideal) a b (ix2 r t) = ∑ k : Fin 4096, a (ix2 r k) * b (ix2 t k) := by
  unfold k0_pay1
  rw [shapeCast_self]
  refine (Ideal.matmul_transposedRhs_apply (M := 256) (K := 4096) (N := 1024) none a b (constant S256x1024 .f32 0x00000000#32) r t).trans ?_
  show Ideal.ofBits .f32 0x00000000#32 + _ = _
  rw [Ideal.ofBits_zero_f32, zero_add]

/-- The row of the whole array that row `r` of device `c`'s quarter is. -/
def row (c : Dev nD) (r : Fin 256) : Fin 1024 := ⟨256 * own c + r.val, by have h := own_lt c; omega⟩

/-- The own quarter, at an element. -/
theorem dyC_apply (A : Dev nD → Vec Ideal S1024x4096 .f32) (c : Dev nD) (r : Fin 256) (k : Fin 4096) :
    dyC A c (ix2 r k) = A c (ix2 (row c r) k) := by
  unfold dyC
  generalize A c = g
  refine congrArg g (funext fun a => Fin.ext ?_)
  have e := off1_eq c
  match a with
  | ⟨0, _⟩ =>
    show k0_off1 c 0 + 1 * r.val = 256 * own c + r.val
    rw [e]; show 256 * own c + 1 * r.val = _; omega
  | ⟨1, _⟩ =>
    show k0_off1 c 1 + 1 * k.val = k.val
    rw [e]; show 0 + 1 * k.val = _; omega

/-- A device's block of a whole array, at an element. -/
theorem block_apply (X : Whole) (c : Dev nD) (r : Fin 1024) (k : Fin 4096) :
    (Layout.blockN ⟨2, ![1024, 4096]⟩ ⟨2, ![1024, 8192]⟩ (Layout.meshBlock [2, 4, 4] ![[], [0]] c) X) (ix2 r k) = X (ix2 r (col (half c) k)) := by
  refine congrArg X (funext fun a => Fin.ext ?_)
  have hc : c.val < 32 := c.isLt
  match a with
  | ⟨0, _⟩ =>
    show 0 * 1024 + r.val = r.val
    omega
  | ⟨1, _⟩ =>
    show (c.val / 16 % 2 * 1 + 0) * 4096 + k.val = c.val / 16 % 2 * 4096 + k.val
    omega

theorem half_xp : ∀ c : Dev nD, half c ≠ half (xp c) := by decide
theorem own_xp : ∀ c : Dev nD, own (xp c) = own c := by decide

/-- A change of format being the identity, each quarter is the sum its device computed. -/
theorem quarterC_eq (A B : Dev nD → Vec Ideal S1024x4096 .f32) (c : Dev nD) (j : Fin 4) : quarterC A B c j = redC A B (src c j) := by
  unfold quarterC yC zC dC ownC
  generalize redC A B = g
  match j with
  | 0 => rfl
  | 1 => rfl
  | 2 => rfl
  | 3 => rfl

section Result
variable (A B : Dev nD → Vec Ideal S1024x4096 .f32) (X W : Whole)
  (hA : ∀ c, A c = Layout.blockN ⟨2, ![1024, 4096]⟩ ⟨2, ![1024, 8192]⟩ (Layout.meshBlock [2, 4, 4] ![[], [0]] c) X)
  (hB : ∀ c, B c = Layout.blockN ⟨2, ![1024, 4096]⟩ ⟨2, ![1024, 8192]⟩ (Layout.meshBlock [2, 4, 4] ![[], [0]] c) W)

include hA hB

/-- A device's own product is its half of the sum. -/
theorem mineC_apply (c : Dev nD) (r : Fin 256) (t : Fin 1024) : mineC A B c (ix2 r t) = part X W (half c) (row c r) t := by
  unfold mineC
  rw [product_apply]
  refine Finset.sum_congr rfl fun k _ => ?_
  rw [dyC_apply, hA, hB, block_apply, block_apply]

/-- What it receives from its `x` neighbour is the other half. -/
theorem xcC_apply (c : Dev nD) (r : Fin 256) (t : Fin 1024) : xcC A B c (ix2 r t) = part X W (half (xp c)) (row c r) t := by
  unfold xcC mbC k0_pay2
  rw [shapeCast_self]
  refine (mineC_apply A B X W hA hB (xp c) r t).trans ?_
  have e : row (xp c) r = row c r := Fin.ext (by show 256 * own (xp c) + _ = 256 * own c + _; rw [own_xp])
  rw [e]

/-- Their sum is the whole product. -/
theorem redC_apply (c : Dev nD) (r : Fin 256) (t : Fin 1024) : redC A B c (ix2 r t) = full X W (row c r) t := by
  refine Eq.trans ?_ (part_add_other X W _ _ (half_xp c) (row c r) t)
  exact congrArg₂ (· + ·) (mineC_apply A B X W hA hB c r t) (xcC_apply A B X W hA hB c r t)

/-- So is every quarter's, whichever device computed it. -/
theorem quarterC_apply (c : Dev nD) (j : Fin 4) (r : Fin 256) (t : Fin 1024) :
    quarterC A B c j (ix2 r t) = full X W (row (src c j) r) t :=
  (congrFun (quarterC_eq A B c j) (ix2 r t)).trans (redC_apply A B X W hA hB (src c j) r t)

/-- The result, at an element, on every device. -/
theorem outC_apply (c : Dev nD) (i t : Fin 1024) : outC A B c (ix2 i t) = full X W i t := by
  have hi : inQuarter (ix2 i t) = ix2 (⟨i.val % 256, Nat.mod_lt _ (by decide)⟩ : Fin 256) t := by
    funext a
    match a with
    | ⟨0, _⟩ => rfl
    | ⟨1, _⟩ => rfl
  have ho : own (src c (quarterOf c (ix2 i t))) = i.val / 256 := Exists.choose_spec (own_src_surj c _)
  have hr : row (src c (quarterOf c (ix2 i t))) ⟨i.val % 256, Nat.mod_lt _ (by decide)⟩ = i := Fin.ext (by
    show 256 * own (src c (quarterOf c (ix2 i t))) + i.val % 256 = i.val
    rw [ho]; omega)
  show quarterC A B c (quarterOf c (ix2 i t)) (inQuarter (ix2 i t)) = _
  rw [hi, quarterC_apply A B X W hA hB, hr]

end Result

end Cert.KernelIdeal.Mesh

end
-- ==== Proof.Algebraic.lean ====
/- The value claim: at the ideal values every device's result is the reference's. -/
module

public import proofs.«01_k».proof.Proof.Frames
public import proofs.«01_k».proof.Proof.Value
public import Idealize.ShloMosaic.Lib.StackMember
public import Idealize.ShloMosaic.Lib.ValueLayout

@[expose] public section

noncomputable section

namespace Cert.Proof

open Idealize.ShloMosaic Idealize.ShloMosaic.TcCoe Idealize.SL.Sem Idealize.ShloMosaic.ValueIdx
open Cert.KernelIdeal.Mesh (Whole full outC outC_apply argA argB run_main)

/-- What the reference computes of its two arguments. -/
def refOut (X W : Whole) : (⟨2, ![1024, 1024]⟩ : Shape).Idx → EReal :=
  Host.dotGeneral (F := Ideal) (φ₁ := .f32) (φ₂ := .f32) Cert.ReferenceIdeal.dot_S1024x8192_S8192x1024_S1024x1024_1_0_0_1_n_n none X
    (transpose Cert.ReferenceIdeal.S8192x1024 [1, 0] W Cert.ReferenceIdeal.Facts₀.transposes_S1024x8192_S8192x1024_1_0)

/-- At an element it is the row of the first times the row of the second. -/
theorem refOut_apply (X W : Whole) (i t : Fin 1024) : refOut X W (ix2 i t) = full X W i t := by
  unfold refOut
  refine (StackMember.dotGeneral_plain_apply (m := 1024) (k := 8192) (n := 1024) (φ₁ := .f32) (φ₂ := .f32) none X
    (transpose Cert.ReferenceIdeal.S8192x1024 [1, 0] W Cert.ReferenceIdeal.Facts₀.transposes_S1024x8192_S8192x1024_1_0) i t).trans ?_
  exact Finset.sum_congr rfl fun k _ => congrArg (X (ix2 i k) * ·) (transpose_ix2_apply W _ k t)

/-- The kernel's result is the reference's, on every device. -/
theorem outC_eq (A B : Dev Cert.KernelIdeal.nD → Vec Ideal Cert.KernelIdeal.S1024x4096 .f32) (X W : Whole)
    (hA : ∀ c, A c = Layout.blockN ⟨2, ![1024, 4096]⟩ ⟨2, ![1024, 8192]⟩ (Layout.meshBlock [2, 4, 4] ![[], [0]] c) X)
    (hB : ∀ c, B c = Layout.blockN ⟨2, ![1024, 4096]⟩ ⟨2, ![1024, 8192]⟩ (Layout.meshBlock [2, 4, 4] ![[], [0]] c) W)
    (c : Dev Cert.KernelIdeal.nD) : outC A B c = refOut X W := by
  funext j
  obtain ⟨i, t, rfl⟩ : ∃ i t : Fin 1024, j = ix2 i t := ⟨j 0, j 1, eq_ix2 j⟩
  exact (outC_apply A B X W hA hB c i t).trans (refOut_apply X W i t).symm

/-- The value claim. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨(h.1 c).1.trans (outC_eq (argA m) (argB m) _ _ (fun d => (hagree d).1) (fun d => (hagree d).2) c), (h.1 c).2⟩)
      (run_main (F := Ideal) m ρ)
  · exact (θ_run Cert.ReferenceIdeal.defs _ _).mono (fun _ h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
